-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_gain [hPre_finite_gain : Cert.Pre_finite_gain.Facts] (m : (ℓ : Loc Cert.KernelIdeal.nD Cert.KernelIdeal.τ Cert.KernelIdeal.sig) → Buf (Elt Ideal) ℓ) : Prop :=
  ∀ c : Dev Cert.KernelIdeal.nD,
    (Cert.Pre_finite_gain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_gain [hPre_finite_gain : Cert.Pre_finite_gain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_gain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_gain [hKernelIdeal : Cert.KernelIdeal.Facts] [hPre_finite_gain : Cert.Pre_finite_gain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_gain m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_gain [hReferenceIdeal : Cert.ReferenceIdeal.Facts] [hPre_finite_gain : Cert.Pre_finite_gain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_gain m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "inv_d" .f32 0x39124925#32 ((1 / 7168 : ℝ) : EReal)

def algebraic_KernelIdeal_ReferenceIdeal_pre_finite_gain [hKernelIdeal : Cert.KernelIdeal.Facts] [hReferenceIdeal : Cert.ReferenceIdeal.Facts] [hPre_finite_gain : Cert.Pre_finite_gain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_gain m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_gain : Cert.Pre_finite_gain.Facts),
    quiescent_Kernel (hKernel := hKernel)
    ∧ quiescent_KernelIdeal (hKernelIdeal := hKernelIdeal)
    ∧ quiescent_KernelIdeal_pre_finite_gain (hKernelIdeal := hKernelIdeal) (hPre_finite_gain := hPre_finite_gain)
    ∧ quiescent_ReferenceIdeal (hReferenceIdeal := hReferenceIdeal)
    ∧ quiescent_ReferenceIdeal_pre_finite_gain (hReferenceIdeal := hReferenceIdeal) (hPre_finite_gain := hPre_finite_gain)
    ∧ preserves_Kernel_KernelIdeal
    ∧ algebraic_KernelIdeal_ReferenceIdeal_pre_finite_gain (hKernelIdeal := hKernelIdeal) (hReferenceIdeal := hReferenceIdeal) (hPre_finite_gain := hPre_finite_gain)
-- ==== Pre_finite_gain.lean ====
abbrev S4x3x2048x7168 : Shape := ⟨4, ![4, 3, 2048, 7168]⟩
abbrev S4x3x2048 : Shape := ⟨3, ![4, 3, 2048]⟩
abbrev S7168 : Shape := ⟨1, ![7168]⟩
abbrev S3x2048x7168 : Shape := ⟨3, ![3, 2048, 7168]⟩
abbrev S_ : Shape := ⟨0, ![]⟩

class Facts : Prop where
  bcast_S_S7168 : S_.BroadcastsInDim S7168 (![] : Fin 0 → Fin S7168.rank)

variable [Facts]

def fn {F : FTy → Type} [FloatOps F] (main_arg0 : FVec F S4x3x2048x7168 .fp8e4m3) (main_arg1 : FVec F S4x3x2048 .f32) (main_arg2 : FVec F S7168 .f32) (main_arg3 : FVec F S7168 .f32) (main_arg4 : FVec F S3x2048x7168 .bf16) (main_arg5 : FVec F S7168 .f32) : IVec S7168 1 :=
  let main_v0 : FVec F S7168 .f32 := Host.absf main_arg5
  let main_cst : FVec F S_ .f32 := constant S_ .f32 0x7F7FFFFF#32
  let main_v1 : FVec F S7168 .f32 := broadcastInDim S7168 ![] bcast_S_S7168 main_cst
  let main_v2 : IVec S7168 1 := cmpf .ole main_v0 main_v1
  main_v2
-- ==== Kernel.lean ====
abbrev S4x3x2048x7168 : Shape := ⟨4, ![4, 3, 2048, 7168]⟩
abbrev S4x3x2048 : Shape := ⟨3, ![4, 3, 2048]⟩
abbrev S7168 : Shape := ⟨1, ![7168]⟩
abbrev S3x2048x7168 : Shape := ⟨3, ![3, 2048, 7168]⟩
abbrev S1x7168 : Shape := ⟨2, ![1, 7168]⟩
abbrev S3x2048 : Shape := ⟨2, ![3, 2048]⟩
abbrev S4x1x128x7168 : Shape := ⟨4, ![4, 1, 128, 7168]⟩
abbrev S1x128x7168 : Shape := ⟨3, ![1, 128, 7168]⟩
abbrev S64x7168 : Shape := ⟨2, ![64, 7168]⟩
abbrev S4x3x128 : Shape := ⟨3, ![4, 3, 128]⟩
abbrev S4x128 : Shape := ⟨2, ![4, 128]⟩
abbrev S64x128 : Shape := ⟨2, ![64, 128]⟩
abbrev S1x128 : Shape := ⟨2, ![1, 128]⟩
abbrev S64x256 : Shape := ⟨2, ![64, 256]⟩
abbrev S4x1x64x256 : Shape := ⟨4, ![4, 1, 64, 256]⟩
abbrev S4x64x256 : Shape := ⟨3, ![4, 64, 256]⟩
abbrev S256x256 : Shape := ⟨2, ![256, 256]⟩
abbrev S1x256 : Shape := ⟨2, ![1, 256]⟩
abbrev S64 : Shape := ⟨1, ![64]⟩
abbrev S64x1 : Shape := ⟨2, ![64, 1]⟩
abbrev S1x64x256 : Shape := ⟨3, ![1, 64, 256]⟩
abbrev S128x1 : Shape := ⟨2, ![128, 1]⟩
abbrev S128x128 : Shape := ⟨2, ![128, 128]⟩
abbrev S128 : Shape := ⟨1, ![128]⟩

abbrev nBuf : Space → Nat
  | .hbm => 12
  | .vmem => 15
  | .smem => 0
  | _ => 0

abbrev bufTy : (tb : Table) → Fin (tcTables nBuf tb) → BufTy
  | .hbm, ⟨0, _⟩ => ⟨S4x3x2048x7168, .fp8e4m3⟩
  | .hbm, ⟨1, _⟩ => ⟨S4x3x2048, .f32⟩
  | .hbm, ⟨2, _⟩ => ⟨S7168, .f32⟩
  | .hbm, ⟨3, _⟩ => ⟨S7168, .f32⟩
  | .hbm, ⟨4, _⟩ => ⟨S3x2048x7168, .bf16⟩
  | .hbm, ⟨5, _⟩ => ⟨S7168, .f32⟩
  | .hbm, ⟨6, _⟩ => ⟨S1x7168, .f32⟩
  | .hbm, ⟨7, _⟩ => ⟨S1x7168, .f32⟩
  | .hbm, ⟨8, _⟩ => ⟨S1x7168, .f32⟩
  | .hbm, ⟨9, _⟩ => ⟨S3x2048x7168, .bf16⟩
  | .hbm, ⟨10, _⟩ => ⟨S3x2048x7168, .fp8e4m3⟩
  | .hbm, ⟨11, _⟩ => ⟨S3x2048, .f32⟩
  | .local _ .vmem, ⟨0, _⟩ => ⟨S4x1x128x7168, .fp8e4m3⟩
  | .local _ .vmem, ⟨1, _⟩ => ⟨S4x1x128x7168, .fp8e4m3⟩
  | .local _ .vmem, ⟨2, _⟩ => ⟨S4x3x2048, .f32⟩
  | .local _ .vmem, ⟨3, _⟩ => ⟨S1x7168, .f32⟩
  | .local _ .vmem, ⟨4, _⟩ => ⟨S1x7168, .f32⟩
  | .local _ .vmem, ⟨5, _⟩ => ⟨S1x128x7168, .bf16⟩
  | .local _ .vmem, ⟨6, _⟩ => ⟨S1x128x7168, .bf16⟩
  | .local _ .vmem, ⟨7, _⟩ => ⟨S1x7168, .f32⟩
  | .local _ .vmem, ⟨8, _⟩ => ⟨S1x128x7168, .bf16⟩
  | .local _ .vmem, ⟨9, _⟩ => ⟨S1x128x7168, .bf16⟩
  | .local _ .vmem, ⟨10, _⟩ => ⟨S1x128x7168, .fp8e4m3⟩
  | .local _ .vmem, ⟨11, _⟩ => ⟨S1x128x7168, .fp8e4m3⟩
  | .local _ .vmem, ⟨12, _⟩ => ⟨S3x2048, .f32⟩
  | .local _ .vmem, ⟨13, _⟩ => ⟨S64x7168, .f32⟩
  | .local _ .vmem, ⟨14, _⟩ => ⟨S64x7168, .f32⟩
  | _, _ => ⟨S4x3x2048x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12

abbrev nD : Nat := 1
abbrev τ : Topo := Topo.v7x

variable {F : FTy → Type} [FloatOps F]

abbrev grid0 : Pipeline.Grid := ⟨2, ![3, 16], ![false, false]⟩

def k0_mult1 (i : grid0.Coords) : BitVec 32 :=
  let arg1 : BitVec 32 := BitVec.ofNat 32 (i 1).val
  let c128_i32 : BitVec 32 := 128#32
  let v0 : BitVec 32 := Scalar.muli arg1 c128_i32
  v0
def k0_off1 (i : grid0.Coords) : Fin 3 → Nat :=
  let c0 : Index := 0#32
  let c0_0 : Index := 0#32
  let arg1 : BitVec 32 := BitVec.ofNat 32 (i 1).val
  let c128_i32 : BitVec 32 := 128#32
  let v0 : BitVec 32 := Scalar.muli arg1 c128_i32
  let v1 : BitVec 32 := v0
  let v2 : Index := Scalar.indexCast v1
  ![0, 0, v2.toNat]
def k0_cond1 (i : grid0.Coords) : BitVec 1 :=
  let arg0 : BitVec 32 := BitVec.ofNat 32 (i 0).val
  let c0_i32_1817 : BitVec 32 := 0#32
  let v4113 : BitVec 1 := Scalar.cmpi .eq arg0 c0_i32_1817
  let v4114 : BitVec 32 := Scalar.extui v4113
  let c0_i32_1818 : BitVec 32 := 0#32
  let v4115 : BitVec 1 := Scalar.cmpi .ne v4114 c0_i32_1818
  v4115

def k0_off2 (i : grid0.Coords) : Fin 2 → Nat :=
  let c0_1821 : Index := 0#32
  let arg1 : BitVec 32 := BitVec.ofNat 32 (i 1).val
  let c128_i32 : BitVec 32 := 128#32
  let v0 : BitVec 32 := Scalar.muli arg1 c128_i32
  let v1 : BitVec 32 := v0
  let v4122 : Index := Scalar.indexCast v1
  ![0, v4122.toNat]
def k0_cond2 (i : grid0.Coords) : BitVec 1 :=
  let arg0 : BitVec 32 := BitVec.ofNat 32 (i 0).val
  let c1_i32 : BitVec 32 := 1#32
  let v4116 : BitVec 1 := Scalar.cmpi .eq arg0 c1_i32
  let v4117 : BitVec 32 := Scalar.extui v4116
  let c0_i32_1819 : BitVec 32 := 0#32
  let v4118 : BitVec 1 := Scalar.cmpi .ne v4117 c0_i32_1819
  v4118

def k0_off3 (i : grid0.Coords) : Fin 2 → Nat :=
  let c1 : Index := 1#32
  let arg1 : BitVec 32 := BitVec.ofNat 32 (i 1).val
  let c128_i32 : BitVec 32 := 128#32
  let v0 : BitVec 32 := Scalar.muli arg1 c128_i32
  let v1 : BitVec 32 := v0
  let v4122 : Index := Scalar.indexCast v1
  ![1, v4122.toNat]
def k0_cond3 (i : grid0.Coords) : BitVec 1 :=
  let arg0 : BitVec 32 := BitVec.ofNat 32 (i 0).val
  let c2_i32 : BitVec 32 := 2#32
  let v4119 : BitVec 1 := Scalar.cmpi .eq arg0 c2_i32
  let v4120 : BitVec 32 := Scalar.extui v4119
  let c0_i32_1820 : BitVec 32 := 0#32
  let v4121 : BitVec 1 := Scalar.cmpi .ne v4120 c0_i32_1820
  v4121

def k0_off4 (i : grid0.Coords) : Fin 2 → Nat :=
  let c2 : Index := 2#32
  let arg1 : BitVec 32 := BitVec.ofNat 32 (i 1).val
  let c128_i32 : BitVec 32 := 128#32
  let v0 : BitVec 32 := Scalar.muli arg1 c128_i32
  let v1 : BitVec 32 := v0
  let v4122 : Index := Scalar.indexCast v1
  ![2, v4122.toNat]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x1x128x7168 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x3x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x7168 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x7168 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x128x7168 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x7168 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x128x7168 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x7168 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S3x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== KernelIdeal.lean ====
variable {F : FTy → Type} [FloatOps F] [Named F]
def κ : String → Option EReal := fun
  | "inv_d" => some ((1 / 7168 : ℝ) : EReal)
  | _ => none
-- ==== ReferenceIdeal.lean ====
abbrev S4x3x2048x7168 : Shape := ⟨4, ![4, 3, 2048, 7168]⟩
abbrev S4x3x2048 : Shape := ⟨3, ![4, 3, 2048]⟩
abbrev S7168 : Shape := ⟨1, ![7168]⟩
abbrev S3x2048x7168 : Shape := ⟨3, ![3, 2048, 7168]⟩
abbrev S1x1x7168 : Shape := ⟨3, ![1, 1, 7168]⟩
abbrev S3x2048 : Shape := ⟨2, ![3, 2048]⟩
abbrev S1x3x2048x7168 : Shape := ⟨4, ![1, 3, 2048, 7168]⟩
abbrev S1x3x2048 : Shape := ⟨3, ![1, 3, 2048]⟩
abbrev S3x2048x1 : Shape := ⟨3, ![3, 2048, 1]⟩

abbrev nBuf : Space → Nat
  | .hbm => 12
  | .vmem => 9
  | .smem => 0
  | _ => 0

abbrev bufTy : (tb : Table) → Fin (tcTables nBuf tb) → BufTy
  | .hbm, ⟨0, _⟩ => ⟨S4x3x2048x7168, .fp8e4m3⟩
  | .hbm, ⟨1, _⟩ => ⟨S4x3x2048, .f32⟩
  | .hbm, ⟨2, _⟩ => ⟨S7168, .f32⟩
  | .hbm, ⟨3, _⟩ => ⟨S7168, .f32⟩
  | .hbm, ⟨4, _⟩ => ⟨S3x2048x7168, .bf16⟩
  | .hbm, ⟨5, _⟩ => ⟨S7168, .f32⟩
  | .hbm, ⟨6, _⟩ => ⟨S1x1x7168, .f32⟩
  | .hbm, ⟨7, _⟩ => ⟨S1x1x7168, .f32⟩
  | .hbm, ⟨8, _⟩ => ⟨S1x1x7168, .f32⟩
  | .hbm, ⟨9, _⟩ => ⟨S3x2048x7168, .bf16⟩
  | .hbm, ⟨10, _⟩ => ⟨S3x2048x7168, .fp8e4m3⟩
  | .hbm, ⟨11, _⟩ => ⟨S3x2048, .f32⟩
  | .local _ .vmem, ⟨0, _⟩ => ⟨S4x3x2048x7168, .fp8e4m3⟩
  | .local _ .vmem, ⟨1, _⟩ => ⟨S4x3x2048, .f32⟩
  | .local _ .vmem, ⟨2, _⟩ => ⟨S1x1x7168, .f32⟩
  | .local _ .vmem, ⟨3, _⟩ => ⟨S1x1x7168, .f32⟩
  | .local _ .vmem, ⟨4, _⟩ => ⟨S3x2048x7168, .bf16⟩
  | .local _ .vmem, ⟨5, _⟩ => ⟨S1x1x7168, .f32⟩
  | .local _ .vmem, ⟨6, _⟩ => ⟨S3x2048x7168, .bf16⟩
  | .local _ .vmem, ⟨7, _⟩ => ⟨S3x2048x7168, .fp8e4m3⟩
  | .local _ .vmem, ⟨8, _⟩ => ⟨S3x2048, .f32⟩
  | _, _ => ⟨S4x3x2048x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S4x3x2048x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x3x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1x7168 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1x7168 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x2048x7168 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1x7168 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x2048x7168 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x2048x7168 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Values.lean ====
/- The values the kernel computes, one definition per step of its source: the scale matrix of a half
   block, one chunk of each of the three passes, the row statistics between them, and the scales of a
   block as one row of lanes. Each is the printed operations in the printed order, with the loaded
   values as its arguments. -/
module

public import proofs.«01_k».proof.Proof.Gen.KernelIdeal.Skeleton

@[expose] public section

set_option synthInstance.maxSize 4096

noncomputable section

namespace Cert.KernelIdeal.Sandwich

open Idealize.ShloMosaic Idealize.SL.Sem Cert.KernelIdeal.Gen

variable {F : FTy → Type} [FloatOps F] [Named F]

/-- The scales of the grid point's batch, per shard and token of the block. -/
def batchScales (i : grid0.Coords) (v3 : Vec F S4x3x128 .f32) : FVec F S4x128 .f32 :=
  multiReduction .add [1] S4x128
    (select (cmpi .eq (iota .tc S4x3x128 32 [1] iota_S4x3x128_d1_w32) (broadcast S4x3x128 (BitVec.ofNat 32 (i 0).val))) v3
      (broadcast S4x3x128 (Scalar.ofBits (F := F) .f32 0x00000000#32)))
    0x00000000#32 reduces_S4x3x128_S4x128 (.inl rfl) rfl

/-- Whether a lane is in the first 64. -/
def lowLane : IVec S64x128 1 :=
  cmpi .slt (iota .tc S64x128 32 [1] iota_S64x128_d1_w32) (broadcast S64x128 64#32)

/-- Whether a lane, modulo 64, is its row. -/
def onDiag : IVec S64x128 1 :=
  cmpi .eq (andi (iota .tc S64x128 32 [1] iota_S64x128_d1_w32) (broadcast S64x128 63#32)) (iota .tc S64x128 32 [0] iota_S64x128_d0_w32)

/-- Two shards' scales of half `h` of the block, the first's in lanes 0–63, the second's in 64–127. -/
def pairLanes (h : Nat) (a b : FVec F S64x128 .f32) : FVec F S64x128 .f32 :=
  match h with
  | 0 => select lowLane a (dynamicRotate 1 64#32 none b rotates_S64x128_d1)
  | _ + 1 => select lowLane (dynamicRotate 1 64#32 none a rotates_S64x128_d1) b

/-- One row of scales over 64 rows. -/
def spread (a : FVec F S1x128 .f32) : FVec F S64x128 .f32 :=
  broadcastTo S64x128 (shapeCast S1x128 a shapeCasts_S1x128_S1x128) broadcasts_S1x128_S64x128

/-- The lanes on the diagonal, zero elsewhere. -/
def diagLanes (v : FVec F S64x128 .f32) : FVec F S64x128 .f32 :=
  select onDiag v (broadcast S64x128 (Scalar.ofBits (F := F) .f32 0x00000000#32))

/-- The 64×256 matrix of scales of half `h`: at row `r`, column `64·k + r` holds shard `k`'s scale. -/
def scaleMat (h : Nat) (sc : FVec F S4x128 .f32) : FVec F S64x256 .f32 :=
  concatenate S64x256 1
    [⟨S64x128, diagLanes (pairLanes h (spread (extractStridedSlice S1x128 ![0, 0] sc slices_S4x128_o0_0_S1x128))
        (spread (extractStridedSlice S1x128 ![1, 0] sc slices_S4x128_o1_0_S1x128)))⟩,
     ⟨S64x128, diagLanes (pairLanes h (spread (extractStridedSlice S1x128 ![2, 0] sc slices_S4x128_o2_0_S1x128))
        (spread (extractStridedSlice S1x128 ![3, 0] sc slices_S4x128_o3_0_S1x128)))⟩]
    concatenates_S64x128_S64x128_S64x256_d1

/-- The leading bf16 part of a matrix. -/
def partHi (m : FVec F S64x256 .f32) : FVec F S64x256 .bf16 := truncf .bf16 m bitsLt_bf16_f32

/-- What the leading bf16 part leaves. -/
def restHi (m : FVec F S64x256 .f32) : FVec F S64x256 .f32 := subf m (extf .f32 (partHi m) bitsLt_bf16_f32)

/-- The second bf16 part. -/
def partMid (m : FVec F S64x256 .f32) : FVec F S64x256 .bf16 := partHi (restHi m)

/-- The third bf16 part. -/
def partLo (m : FVec F S64x256 .f32) : FVec F S64x256 .bf16 := partHi (restHi (restHi m))

/-- One matrix product of a part with a chunk of codes. -/
def dotPart (p : FVec F S64x256 .bf16) (codes : Vec F S4x1x64x256 .fp8e4m3) : FVec F S64x256 .f32 :=
  matmul dot_S64x256_S256x256_S64x256_1_0_0_1_n_n none p
    (shapeCast S256x256 (shapeCast S4x64x256 codes shapeCasts_S4x1x64x256_S4x64x256) shapeCasts_S4x64x256_S256x256)
    (constant S64x256 .f32 0x00000000#32)

/-- A row of 256 columns over 64 rows. -/
def spreadRow (v : Vec F S1x256 .f32) : FVec F S64x256 .f32 :=
  broadcastTo S64x256 (shapeCast S1x256 v shapeCasts_S1x256_S1x256) broadcasts_S1x256_S64x256

/-- A column of 64 rows over 256 columns. -/
def spreadCol (v : FVec F S64x1 .f32) : FVec F S64x256 .f32 :=
  broadcastTo S64x256 v broadcasts_S64x1_S64x256

/-- A chunk of the first pass: the bias and the sum of the shards' codes times their scales. -/
def tChunk (m : FVec F S64x256 .f32) (codes : Vec F S4x1x64x256 .fp8e4m3) (bias : Vec F S1x256 .f32) : FVec F S64x256 .f32 :=
  addf (addf (addf (spreadRow bias) (dotPart (partHi m) codes)) (dotPart (partMid m) codes)) (dotPart (partLo m) codes)

/-- The first 128 columns of a chunk. -/
def left (t : FVec F S64x256 .f32) : FVec F S64x128 .f32 :=
  extractStridedSlice S64x128 ![0, 0] t slices_S64x256_o0_0_S64x128

/-- The last 128 columns of a chunk. -/
def right (t : FVec F S64x256 .f32) : FVec F S64x128 .f32 :=
  extractStridedSlice S64x128 ![0, 128] t slices_S64x256_o0_128_S64x128

/-- The sums of squares per row and lane, one chunk further. -/
def ssq (acc : FVec F S64x128 .f32) (t : FVec F S64x256 .f32) : FVec F S64x128 .f32 :=
  addf (addf acc (mulf (left t) (left t))) (mulf (right t) (right t))

/-- Zero per row and lane. -/
def zeros : FVec F S64x128 .f32 := broadcast S64x128 (Scalar.ofBits (F := F) .f32 0x00000000#32)

/-- The reciprocal root mean square of each row, from the sums of squares. -/
def invRms (acc : FVec F S64x128 .f32) : FVec F S64x1 .f32 :=
  rsqrt (addf
    (mulf (shapeCast S64x1 (multiReduction .add [1] S64 acc 0x00000000#32 reduces_S64x128_S64 (.inl rfl) rfl) shapeCasts_S64_S64x1)
      (broadcast S64x1 (Named.named (F := F) κ "inv_d" 0x39124925#32)))
    (broadcast S64x1 (Scalar.ofBits (F := F) .f32 0x358637BD#32)))

/-- A chunk of the new residual. -/
def hChunk (r1 : FVec F S64x1 .f32) (x : Vec F S1x64x256 .bf16) (t : Vec F S64x256 .f32) (pg : Vec F S1x256 .f32) :
    FVec F S64x256 .bf16 :=
  truncf .bf16 (addf (extf .f32 (shapeCast S64x256 x shapeCasts_S1x64x256_S64x256) bitsLt_bf16_f32)
    (mulf (mulf t (spreadCol r1)) (spreadRow pg))) bitsLt_bf16_f32

/-- The new residual's chunk, widened. -/
def wide (h : FVec F S64x256 .bf16) : FVec F S64x256 .f32 := extf .f32 h bitsLt_bf16_f32

/-- A chunk of the residual times the norm gain. -/
def gChunk (h : FVec F S64x256 .bf16) (ng : Vec F S1x256 .f32) : FVec F S64x256 .f32 := mulf (wide h) (spreadRow ng)

/-- The largest magnitudes per row and lane, one chunk further. -/
def amaxStep (am : FVec F S64x128 .f32) (g : FVec F S64x256 .f32) : FVec F S64x128 .f32 :=
  maximumf am (maximumf (left (absf g)) (right (absf g)))

/-- The largest magnitude of each row, times the row's factor, over 448. -/
def rowMax (am : FVec F S64x128 .f32) (r2 : FVec F S64x1 .f32) : FVec F S64x1 .f32 :=
  mulf (mulf (shapeCast S64x1 (multiReduction .maximumf [1] S64 am 0xFF800000#32 reduces_S64x128_S64 (.inl rfl) rfl) shapeCasts_S64_S64x1) r2)
    (broadcast S64x1 (Scalar.ofBits (F := F) .f32 0x3B124925#32))

/-- The exponent fields 0–255 over the columns. -/
def fields : IVec S64x256 32 := iota .tc S64x256 32 [1] iota_S64x256_d1_w32

/-- The largest exponent field whose power of two a row's value reaches. -/
def biased (a : FVec F S64x1 .f32) : IVec S64x1 32 :=
  shapeCast S64x1 (multiReductionI .maxsi [1] S64
    (select (cmpf .oge (spreadCol a) (bitcastToFloat (F := F) .f32 (shli fields (broadcast S64x256 23#32)))) fields (broadcast S64x256 0#32))
    2147483648#32 reduces_S64x256_S64 rfl) shapeCasts_S64_S64x1

/-- The exponent of a row's scale. -/
def expo (b : IVec S64x1 32) : IVec S64x1 32 :=
  select (ori (cmpi .eq b (broadcast S64x1 0#32)) (cmpi .eq b (broadcast S64x1 255#32)))
    (broadcast S64x1 0#32) (subi b (broadcast S64x1 126#32))

/-- A row's scale. -/
def scaleOf (e : IVec S64x1 32) : FVec F S64x1 .f32 :=
  bitcastToFloat .f32 (shli (addi (broadcast S64x1 127#32) e) (broadcast S64x1 23#32))

/-- The reciprocal of a row's scale. -/
def invOf (e : IVec S64x1 32) : FVec F S64x1 .f32 :=
  bitcastToFloat .f32 (shli (subi (broadcast S64x1 127#32) e) (broadcast S64x1 23#32))

/-- A chunk of the codes. -/
def qChunk (m : FVec F S64x1 .f32) (g : Vec F S64x256 .f32) : FVec F S64x256 .fp8e4m3 :=
  truncf .fp8e4m3 (minimumf (broadcast S64x256 (Scalar.ofBits (F := F) .f32 0x43E00000#32))
    (maximumf (broadcast S64x256 (Scalar.ofBits (F := F) .f32 0xC3E00000#32)) (mulf g (spreadCol m)))) bitsLt_fp8e4m3_f32

/-- The block's scales as a row of 128 lanes. -/
def laneScales (s0 s1 : FVec F S64x1 .f32) : FVec F S128 .f32 :=
  multiReduction .add [0] S128
    (select (cmpi .eq (iota .tc S128x128 32 [0] iota_S128x128_d0_w32) (iota .tc S128x128 32 [1] iota_S128x128_d1_w32))
      (broadcastTo S128x128 (shapeCast S128x1 (concatenate S128x1 0 [⟨S64x1, s0⟩, ⟨S64x1, s1⟩] concatenates_S64x1_S64x1_S128x1_d0)
        shapeCasts_S128x1_S128x1) broadcasts_S128x1_S128x128)
      (broadcast S128x128 (Scalar.ofBits (F := F) .f32 0x00000000#32)))
    0x00000000#32 reduces_S128x128_S128 (.inl rfl) rfl

end Cert.KernelIdeal.Sandwich
-- ==== Proof.Clean.lean ====
/- The kernel's body with its three passes written as loops over the chunks of a row, and the proof that
   the printed body, which has them written out, is that program. -/
module

public import proofs.«01_k».proof.Proof.Values
public import Idealize.ShloMosaic.Lib.Tactic

@[expose] public section

set_option synthInstance.maxSize 4096
set_option maxRecDepth 16384

noncomputable section

namespace Cert.KernelIdeal.Sandwich

open Idealize.ShloMosaic Idealize.SL.Sem Cert.KernelIdeal.Gen

variable {F : FTy → Type} [FloatOps F] [Named F]

/-- A program over the kernel's memory. -/
abbrev P (F : FTy → Type) := Prog (TpuEff nD τ sig (Elt F) Λ₀ .tc) PUnit

/-- A chunk of a scratch buffer lies in it. -/
theorem inbS {c : Nat} (hc : c < 28) : ∀ a, (![0, 256 * c] : Fin 2 → Nat) a + S64x256.size a ≤ S64x7168.size a :=
  Fin.forall_fin_two.2 ⟨Nat.le_refl _, by show 256 * c + 256 ≤ 7168; omega⟩

/-- A chunk of a row of parameters lies in it. -/
theorem inbV {c : Nat} (hc : c < 28) : ∀ a, (![0, 256 * c] : Fin 2 → Nat) a + S1x256.size a ≤ S1x7168.size a :=
  Fin.forall_fin_two.2 ⟨Nat.le_refl _, by show 256 * c + 256 ≤ 7168; omega⟩

/-- A chunk of the partial sums lies in their block. -/
theorem inbC {h c : Nat} (hh : h < 2) (hc : c < 28) :
    ∀ a, (![0, 0, 64 * h, 256 * c] : Fin 4 → Nat) a + S4x1x64x256.size a ≤ S4x1x128x7168.size a := by
  intro a
  match a with
  | 0 => show 0 + 4 ≤ 4; omega
  | 1 => show 0 + 1 ≤ 1; omega
  | 2 => show 64 * h + 64 ≤ 128; omega
  | 3 => show 256 * c + 256 ≤ 7168; omega

/-- A chunk of a block of rows lies in it. -/
theorem inbB {h c : Nat} (hh : h < 2) (hc : c < 28) :
    ∀ a, (![0, 64 * h, 256 * c] : Fin 3 → Nat) a + S1x64x256.size a ≤ S1x128x7168.size a := by
  intro a
  match a with
  | 0 => show 0 + 1 ≤ 1; omega
  | 1 => show 64 * h + 64 ≤ 128; omega
  | 2 => show 256 * c + 256 ≤ 7168; omega

/-- The rectangle of chunk `c` of a scratch buffer. -/
@[reducible] def rS {c : Nat} (hc : c < 28) : Rect S64x7168 := Rect.unit (s := S64x7168) ![0, 256 * c] S64x256.size (inbS hc)
/-- The rectangle of chunk `c` of a row of parameters. -/
@[reducible] def rV {c : Nat} (hc : c < 28) : Rect S1x7168 := Rect.unit (s := S1x7168) ![0, 256 * c] S1x256.size (inbV hc)
/-- The rectangle of chunk `c`, half `h`, of the partial sums. -/
@[reducible] def rC {h c : Nat} (hh : h < 2) (hc : c < 28) : Rect S4x1x128x7168 :=
  Rect.unit (s := S4x1x128x7168) ![0, 0, 64 * h, 256 * c] S4x1x64x256.size (inbC hh hc)
/-- The rectangle of chunk `c`, half `h`, of a block of rows. -/
@[reducible] def rB {h c : Nat} (hh : h < 2) (hc : c < 28) : Rect S1x128x7168 :=
  Rect.unit (s := S1x128x7168) ![0, 64 * h, 256 * c] S1x64x256.size (inbB hh hc)

/-- A half's rows are whole packed rows at two elements a word. -/
theorem packed2 {h c : Nat} (hh : h < 2) (hc : c < 28) : (rB hh hc).PackedRows (EltTy.packing .bf16) :=
  .inr ⟨by decide, rfl, .inl ⟨Nat.dvd_trans (by decide : 2 ∣ 64) ⟨h, rfl⟩, by show 2 ∣ 64; decide⟩⟩

/-- A half's rows are whole packed rows at four elements a word. -/
theorem packed4 {h c : Nat} (hh : h < 2) (hc : c < 28) : (rB hh hc).PackedRows (EltTy.packing .fp8e4m3) :=
  .inr ⟨by decide, rfl, .inl ⟨Nat.dvd_trans (by decide : 4 ∣ 64) ⟨h, rfl⟩, by show 4 ∣ 64; decide⟩⟩

section
variable (arg2 : Memref sig .tc .vmem S4x1x128x7168 .fp8e4m3) (arg4 : Memref sig .tc .vmem S1x7168 .f32) (arg5 : Memref sig .tc .vmem S1x7168 .f32)
  (arg6 : Memref sig .tc .vmem S1x128x7168 .bf16) (arg7 : Memref sig .tc .vmem S1x7168 .f32) (arg8 : Memref sig .tc .vmem S1x128x7168 .bf16)
  (arg9 : Memref sig .tc .vmem S1x128x7168 .fp8e4m3) (arg11 arg12 : Memref sig .tc .vmem S64x7168 .f32)

/-- One chunk of the first pass. -/
def chunk1 {h c : Nat} (hh : h < 2) (hc : c < 28) (m : FVec F S64x256 .f32) (acc : FVec F S64x128 .f32)
    (k : FVec F S64x128 .f32 → P F) : P F :=
  .op (.load arg2 (rC hh hc).toLoadRect (View.loadsAt_vmem h_S4x1x64x256)) fun codes =>
  .op (.load arg4 (rV hc).toLoadRect (View.loadsAt_vmem h_S1x256)) fun bias =>
  .op (.load arg11 (rS hc).toLoadRect (View.loadsAt_vmem h_S64x256)) fun _ =>
  .op (.store arg11 (rS hc) (shapeCast S64x256 (tChunk m codes bias) shapeCasts_S64x256_S64x256) Finset.univ
    (View.stores_vmem_bits_univ h_S64x256 rfl) (.inl rfl)) fun _ =>
  k (ssq acc (tChunk m codes bias))

/-- The first `n` chunks of the first pass. -/
def phase1 {h : Nat} (hh : h < 2) (m : FVec F S64x256 .f32) : (n : Nat) → n ≤ 28 → (FVec F S64x128 .f32 → P F) → P F
  | 0, _, k => k zeros
  | n + 1, hn, k => phase1 hh m n (Nat.le_of_succ_le hn) fun acc => chunk1 arg2 arg4 arg11 hh hn m acc k

/-- One chunk of the second pass. -/
def chunk2 (harg8 : arg8.IsWhole) {h c : Nat} (hh : h < 2) (hc : c < 28) (r1 : FVec F S64x1 .f32) (acc am : FVec F S64x128 .f32)
    (k : FVec F S64x128 .f32 → FVec F S64x128 .f32 → P F) : P F :=
  .op (.load arg6 (rB hh hc).toLoadRect (View.loadsAt_vmem h_S1x64x256)) fun x =>
  .op (.load arg11 (rS hc).toLoadRect (View.loadsAt_vmem h_S64x256)) fun t =>
  .op (.load arg5 (rV hc).toLoadRect (View.loadsAt_vmem h_S1x256)) fun pg =>
  .op (.load arg8 (rB hh hc).toLoadRect (View.loadsAt_vmem h_S1x64x256)) fun _ =>
  .op (.store arg8 (rB hh hc) (shapeCast S1x64x256 (hChunk r1 x t pg) shapeCasts_S64x256_S1x64x256) Finset.univ
    (View.stores_vmem h_S1x64x256 (harg8.storeExact_slice rfl _ (packed2 hh hc)) (fun _ => rfl)) (.inl rfl)) fun _ =>
  .op (.load arg7 (rV hc).toLoadRect (View.loadsAt_vmem h_S1x256)) fun ng =>
  .op (.load arg12 (rS hc).toLoadRect (View.loadsAt_vmem h_S64x256)) fun _ =>
  .op (.store arg12 (rS hc) (shapeCast S64x256 (gChunk (hChunk r1 x t pg) ng) shapeCasts_S64x256_S64x256) Finset.univ
    (View.stores_vmem_bits_univ h_S64x256 rfl) (.inl rfl)) fun _ =>
  k (ssq acc (wide (hChunk r1 x t pg))) (amaxStep am (gChunk (hChunk r1 x t pg) ng))

/-- The first `n` chunks of the second pass. -/
def phase2 (harg8 : arg8.IsWhole) {h : Nat} (hh : h < 2) (r1 : FVec F S64x1 .f32) :
    (n : Nat) → n ≤ 28 → (FVec F S64x128 .f32 → FVec F S64x128 .f32 → P F) → P F
  | 0, _, k => k zeros zeros
  | n + 1, hn, k => phase2 harg8 hh r1 n (Nat.le_of_succ_le hn) fun acc am =>
      chunk2 arg5 arg6 arg7 arg8 arg11 arg12 harg8 hh hn r1 acc am k

/-- One chunk of the third pass. -/
def chunk3 (harg9 : arg9.IsWhole) {h c : Nat} (hh : h < 2) (hc : c < 28) (m : FVec F S64x1 .f32) (k : P F) : P F :=
  .op (.load arg12 (rS hc).toLoadRect (View.loadsAt_vmem h_S64x256)) fun g =>
  .op (.load arg9 (rB hh hc).toLoadRect (View.loadsAt_vmem h_S1x64x256)) fun _ =>
  .op (.store arg9 (rB hh hc) (shapeCast S1x64x256 (qChunk m g) shapeCasts_S64x256_S1x64x256) Finset.univ
    (View.stores_vmem h_S1x64x256 (harg9.storeExact_slice rfl _ (packed4 hh hc)) (fun _ => rfl)) (.inl rfl)) fun _ => k

/-- The first `n` chunks of the third pass. -/
def phase3 (harg9 : arg9.IsWhole) {h : Nat} (hh : h < 2) (m : FVec F S64x1 .f32) : (n : Nat) → n ≤ 28 → P F → P F
  | 0, _, k => k
  | n + 1, hn, k => phase3 harg9 hh m n (Nat.le_of_succ_le hn) (chunk3 arg9 arg12 harg9 hh hn m k)

/-- The three passes over half `h`, continued at its scales. -/
def halfProg (harg8 : arg8.IsWhole) (harg9 : arg9.IsWhole) {h : Nat} (hh : h < 2) (m : FVec F S64x256 .f32)
    (k : FVec F S64x1 .f32 → P F) : P F :=
  phase1 arg2 arg4 arg11 hh m 28 (Nat.le_refl _) fun acc =>
  phase2 arg5 arg6 arg7 arg8 arg11 arg12 harg8 hh (invRms acc) 28 (Nat.le_refl _) fun acc' am =>
  phase3 arg9 arg12 harg9 hh (mulf (invRms acc') (invOf (expo (biased (rowMax am (invRms acc')))))) 28 (Nat.le_refl _)
    (k (scaleOf (expo (biased (rowMax am (invRms acc'))))))
end

/-- The block's scales into the row of the grid point's batch. -/
def tailProg (i : grid0.Coords) (arg10 : Memref sig .tc .vmem S3x2048 .f32) (v4112 : FVec F S128 .f32) : P F := do
  if k0_h1 : k0_cond1 i = 1#1 then do
    let v4123 : Vec F S1x128 .f32 ← Prog.lift (.load arg10 (Rect.unit (s := S3x2048) (k0_off2 i) S1x128.size (k0_off2_inb i k0_h1)).toLoadRect (View.loadsAt_vmem h_S1x128))
    Prog.lift (.store arg10 (Rect.unit (s := S3x2048) (k0_off2 i) S1x128.size (k0_off2_inb i k0_h1)) (shapeCast S1x128 v4112 shapeCasts_S128_S1x128) Finset.univ (View.stores_vmem_bits_univ h_S1x128 rfl) (.inl rfl))
    pure ⟨⟩
  else do
    pure ⟨⟩
  if k0_h2 : k0_cond2 i = 1#1 then do
    let v4123 : Vec F S1x128 .f32 ← Prog.lift (.load arg10 (Rect.unit (s := S3x2048) (k0_off3 i) S1x128.size (k0_off3_inb i k0_h2)).toLoadRect (View.loadsAt_vmem h_S1x128))
    Prog.lift (.store arg10 (Rect.unit (s := S3x2048) (k0_off3 i) S1x128.size (k0_off3_inb i k0_h2)) (shapeCast S1x128 v4112 shapeCasts_S128_S1x128) Finset.univ (View.stores_vmem_bits_univ h_S1x128 rfl) (.inl rfl))
    pure ⟨⟩
  else do
    pure ⟨⟩
  if k0_h3 : k0_cond3 i = 1#1 then do
    let v4123 : Vec F S1x128 .f32 ← Prog.lift (.load arg10 (Rect.unit (s := S3x2048) (k0_off4 i) S1x128.size (k0_off4_inb i k0_h3)).toLoadRect (View.loadsAt_vmem h_S1x128))
    Prog.lift (.store arg10 (Rect.unit (s := S3x2048) (k0_off4 i) S1x128.size (k0_off4_inb i k0_h3)) (shapeCast S1x128 v4112 shapeCasts_S128_S1x128) Finset.univ (View.stores_vmem_bits_univ h_S1x128 rfl) (.inl rfl))
    pure ⟨⟩
  else do
    pure ⟨⟩
  pure ⟨⟩

/-- The kernel's body as loops over chunks. -/
def loops (i : grid0.Coords) (arg2 : Memref sig .tc .vmem S4x1x128x7168 .fp8e4m3) (arg3 : Memref sig .tc .vmem S4x3x2048 .f32)
    (arg4 : Memref sig .tc .vmem S1x7168 .f32) (arg5 : Memref sig .tc .vmem S1x7168 .f32)
    (arg6 : Memref sig .tc .vmem S1x128x7168 .bf16) (arg7 : Memref sig .tc .vmem S1x7168 .f32)
    (arg8 : Memref sig .tc .vmem S1x128x7168 .bf16) (harg8 : arg8.IsWhole)
    (arg9 : Memref sig .tc .vmem S1x128x7168 .fp8e4m3) (harg9 : arg9.IsWhole) (arg10 : Memref sig .tc .vmem S3x2048 .f32)
    (arg11 arg12 : Memref sig .tc .vmem S64x7168 .f32) : P F :=
  .op (.load arg3 (Rect.unit (s := S4x3x2048) (k0_off1 i) S4x3x128.size (k0_off1_inb i)).toLoadRect (View.loadsAt_vmem h_S4x3x128)) fun v3 =>
  halfProg arg2 arg4 arg5 arg6 arg7 arg8 arg9 arg11 arg12 harg8 harg9 (h := 0) (by decide) (scaleMat 0 (batchScales i v3)) fun s0 =>
  halfProg arg2 arg4 arg5 arg6 arg7 arg8 arg9 arg11 arg12 harg8 harg9 (h := 1) (by decide) (scaleMat 1 (batchScales i v3)) fun s1 =>
  tailProg i arg10 (laneScales s0 s1)

/-- The printed body is the loops. -/
theorem body_eq (i : grid0.Coords) (arg2 : Memref sig .tc .vmem S4x1x128x7168 .fp8e4m3) (harg2 : arg2.IsWhole) (arg3 : Memref sig .tc .vmem S4x3x2048 .f32) (harg3 : arg3.IsWhole) (arg4 : Memref sig .tc .vmem S1x7168 .f32) (harg4 : arg4.IsWhole) (arg5 : Memref sig .tc .vmem S1x7168 .f32) (harg5 : arg5.IsWhole) (arg6 : Memref sig .tc .vmem S1x128x7168 .bf16) (harg6 : arg6.IsWhole) (arg7 : Memref sig .tc .vmem S1x7168 .f32) (harg7 : arg7.IsWhole) (arg8 : Memref sig .tc .vmem S1x128x7168 .bf16) (harg8 : arg8.IsWhole) (arg9 : Memref sig .tc .vmem S1x128x7168 .fp8e4m3) (harg9 : arg9.IsWhole) (arg10 : Memref sig .tc .vmem S3x2048 .f32) (harg10 : arg10.IsWhole) (arg11 : Memref sig .tc .vmem S64x7168 .f32) (harg11 : arg11.IsWhole) (arg12 : Memref sig .tc .vmem S64x7168 .f32) (harg12 : arg12.IsWhole) :
    cc0_sandwich_quant (F := F) i arg2 harg2 arg3 harg3 arg4 harg4 arg5 harg5 arg6 harg6 arg7 harg7 arg8 harg8 arg9 harg9 arg10 harg10 arg11 harg11 arg12 harg12
      = loops i arg2 arg3 arg4 arg5 arg6 arg7 arg8 harg8 arg9 harg9 arg10 arg11 arg12 := by
  sl_kernel_rfl

end Cert.KernelIdeal.Sandwich
-- ==== Proof.Steps.lean ====
/- One load and one store over a buffer owned at its contents, and each chunk and each pass of the
   loops: what a pass leaves in the buffers is the contents before with the chunks' values laid over. -/
module

public import proofs.«01_k».proof.Proof.Clean
public import proofs.«01_k».proof.Proof.Gen.KernelIdeal.Frame

@[expose] public section

set_option synthInstance.maxSize 4096
set_option maxRecDepth 16384

noncomputable section

namespace Cert.KernelIdeal.Sandwich

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen
open Idealize.ShloMosaic.View (ld)

variable {F : FTy → Type} [FloatOps F] [Named F]

local notation "𝕄" => MT nD τ sig Unit (Elt F) ℕ (UR sig nD τ) ℕ

/-- The weakest precondition of the body's programs on core `c`. -/
abbrev wpP (c : Dev nD) (E : Set ℕ) (K : PUnit → sProp 𝕄) (p : P F) : sProp 𝕄 :=
  wp frame (wpE (defs₀ (F := F)) Variants.none c none) E p K

variable (c : Dev nD) (E : Set ℕ) (K : PUnit.{1} → sProp (MT nD τ sig Unit (Elt F) ℕ (UR sig nD τ) ℕ))

/-- A load of a rectangle of a buffer owned at `X` continues at `X` over the rectangle. -/
theorem step_load {s : Shape} {e : EltTy} {m : Memref sig .tc .vmem s e} {r : Rect s} {hl : m.view.LoadsAt r.toLoadRect}
    {X : s.Idx → Elt F e} {k : (r.shape.Idx → Elt F e) → P F} :
    (owns (c : Thread nD τ) m fullShare X : sProp 𝕄)
      ⊢ iprop((owns (c : Thread nD τ) m fullShare X -∗ wpP c E K (k (ld X r))) -∗ wpP c E K (.op (.load m r.toLoadRect hl) k)) := by
  unfold owns
  iintro ⟨%f, %hf, H⟩ Hk
  subst hf
  iapply (wp_load (defs := defs₀ (F := F)) Variants.none (c : Thread nD τ) none E (m := m) (r := r.toLoadRect) (hl := hl) (f := f)
    (S := m.view.set) (View.setOn_subset_set m.view _)) $$ [H]
  · iexact H
  iintro H
  iapply Hk
  iexists f
  isplitr
  · ipureintro; rfl
  iexact H

/-- An unmasked store into a rectangle of a buffer owned at `X` leaves `X` with the stored value laid over. -/
theorem step_store {s : Shape} {e : EltTy} {m : Memref sig .tc .vmem s e} {r : Rect s} {w : r.shape.Idx → Elt F e}
    {hx : (m.access r).Stores Finset.univ} {hm : Finset.univ = Finset.univ ∨ ∀ a, r.stride a = 1}
    {X : s.Idx → Elt F e} {k : PUnit → P F} :
    (owns (c : Thread nD τ) m fullShare X : sProp 𝕄)
      ⊢ iprop((owns (c : Thread nD τ) m fullShare (r.overlay X w) -∗ wpP c E K (k ⟨⟩))
        -∗ wpP c E K (.op (.store m r w Finset.univ hx hm) k)) := by
  unfold owns
  iintro ⟨%f, %hf, H⟩ Hk
  subst hf
  iapply (wp_store (defs := defs₀ (F := F)) Variants.none (c : Thread nD τ) none E (m := m) (r := r) (w := w) (hx := hx) (hm := hm) (f := f)
    (S := m.view.set) (((m.access r).setOn_subset_set _).trans (View.set_slice_subset m.view r))) $$ [H]
  · iexact H
  iintro H
  iapply Hk
  iexists ((m.access r).write (Elt F) f w Finset.univ)
  isplitr
  · ipureintro
    funext y
    by_cases hy : y ∈ r.set
    · obtain ⟨x, rfl⟩ : ∃ x, r.emb x = y := r.exists_idx_of_mem hy
      rw [Rect.overlay_emb]
      exact View.read_slice_write_emb r f w (Finset.mem_univ x)
    · rw [Rect.overlay_of_not_mem _ _ _ hy]
      exact View.read_slice_write_of_not_mem r f w _ (fun h => hy (by rwa [Rect.map_emb_univ] at h))
  iexact H

/-! ## Contents laid over chunk by chunk -/

/-- `X` with the values of the first `n` chunks laid over. -/
def fill {s : Shape} {α : Type} (r : (c : Nat) → c < 28 → Rect s) (w : (c : Nat) → (hc : c < 28) → (r c hc).shape.Idx → α)
    (X : s.Idx → α) : (n : Nat) → n ≤ 28 → s.Idx → α
  | 0, _ => X
  | n + 1, hn => (r n hn).overlay (fill r w X n (Nat.le_of_succ_le hn)) (w n hn)

/-- Off the chunks' rectangles the contents are the ones before. -/
theorem fill_of_not_mem {s : Shape} {α : Type} (r : (c : Nat) → c < 28 → Rect s) (w : (c : Nat) → (hc : c < 28) → (r c hc).shape.Idx → α)
    (X : s.Idx → α) (y : s.Idx) (hy : ∀ c hc, y ∉ (r c hc).set) : (n : Nat) → (hn : n ≤ 28) → fill r w X n hn y = X y
  | 0, _ => rfl
  | n + 1, hn => ((r n hn).overlay_of_not_mem _ _ (hy n hn)).trans (fill_of_not_mem r w X y hy n _)

/-- On a chunk laid over, where the chunks are apart, the contents are its value. -/
theorem fill_emb {s : Shape} {α : Type} (r : (c : Nat) → c < 28 → Rect s) (w : (c : Nat) → (hc : c < 28) → (r c hc).shape.Idx → α)
    (X : s.Idx → α) (hr : ∀ c hc c' hc', c < c' → ∀ x, (r c hc).emb x ∉ (r c' hc').set) (c : Nat) (hc : c < 28)
    (x : (r c hc).shape.Idx) : (n : Nat) → (hn : n ≤ 28) → c < n → fill r w X n hn ((r c hc).emb x) = w c hc x
  | n + 1, hn, h => by
    rcases Nat.lt_succ_iff_lt_or_eq.1 h with h' | rfl
    · exact ((r n hn).overlay_of_not_mem _ _ (hr c hc n hn h' x)).trans (fill_emb r w X hr c hc x n _ h')
    · exact (r c hn).overlay_emb _ _ x

/-! ## The passes -/

/-- The sums of squares over the first `n` chunks. -/
def sums (w : (c : Nat) → c < 28 → FVec F S64x256 .f32) : (n : Nat) → n ≤ 28 → FVec F S64x128 .f32
  | 0, _ => zeros
  | n + 1, hn => ssq (sums w n (Nat.le_of_succ_le hn)) (w n hn)

/-- The largest magnitudes over the first `n` chunks. -/
def maxes (w : (c : Nat) → c < 28 → FVec F S64x256 .f32) : (n : Nat) → n ≤ 28 → FVec F S64x128 .f32
  | 0, _ => zeros
  | n + 1, hn => amaxStep (maxes w n (Nat.le_of_succ_le hn)) (w n hn)

/-- What a store into scratch writes. -/
abbrev payS {c : Nat} (hc : c < 28) (t : FVec F S64x256 .f32) : (rS hc).shape.Idx → Elt F .f32 := shapeCast S64x256 t shapeCasts_S64x256_S64x256

/-- What a store into a block of rows writes. -/
abbrev payB {h c : Nat} (hh : h < 2) (hc : c < 28) {φ : FTy} (t : FVec F S64x256 φ) : (rB hh hc).shape.Idx → F φ :=
  shapeCast S1x64x256 t shapeCasts_S64x256_S1x64x256

/-- The first pass's chunks, from the blocks. -/
def tVal {h : Nat} (hh : h < 2) (m : FVec F S64x256 .f32) (A : Vec F S4x1x128x7168 .fp8e4m3) (B : Vec F S1x7168 .f32) (c : Nat) (hc : c < 28) :
    FVec F S64x256 .f32 := tChunk m (ld A (rC hh hc)) (ld B (rV hc))

section
variable {arg2 : Memref sig .tc .vmem S4x1x128x7168 .fp8e4m3} {arg4 : Memref sig .tc .vmem S1x7168 .f32} {arg5 : Memref sig .tc .vmem S1x7168 .f32}
  {arg6 : Memref sig .tc .vmem S1x128x7168 .bf16} {arg7 : Memref sig .tc .vmem S1x7168 .f32} {arg8 : Memref sig .tc .vmem S1x128x7168 .bf16}
  {arg9 : Memref sig .tc .vmem S1x128x7168 .fp8e4m3} {arg11 arg12 : Memref sig .tc .vmem S64x7168 .f32}

/-- The first pass lays its chunks over the first scratch buffer and sums their squares. -/
theorem phase1_wp {h : Nat} (hh : h < 2) (m : FVec F S64x256 .f32) (A : Vec F S4x1x128x7168 .fp8e4m3) (B : Vec F S1x7168 .f32) (X : Vec F S64x7168 .f32) :
    (n : Nat) → (hn : n ≤ 28) → (k : FVec F S64x128 .f32 → P F) →
    iprop(owns (c : Thread nD τ) arg2 fullShare A ∗ owns (c : Thread nD τ) arg4 fullShare B ∗ owns (c : Thread nD τ) arg11 fullShare X
      ∗ (iprop(owns (c : Thread nD τ) arg2 fullShare A ∗ owns (c : Thread nD τ) arg4 fullShare B
          ∗ owns (c : Thread nD τ) arg11 fullShare (fill (fun c hc => rS hc) (fun c hc => payS hc (tVal hh m A B c hc)) X n hn))
        -∗ wpP c E K (k (sums (tVal hh m A B) n hn))))
      ⊢ wpP c E K (phase1 arg2 arg4 arg11 hh m n hn k)
  | 0, _, k => by
    iintro ⟨H2, H4, H11, Hk⟩
    iapply Hk
    isplitl [H2]; · iexact H2
    isplitl [H4]; · iexact H4
    iexact H11
  | n + 1, hn, k => by
    iintro ⟨H2, H4, H11, Hk⟩
    iapply phase1_wp hh m A B X n (Nat.le_of_succ_le hn) (fun acc => chunk1 arg2 arg4 arg11 hh hn m acc k)
    isplitl [H2]; · iexact H2
    isplitl [H4]; · iexact H4
    isplitl [H11]; · iexact H11
    iintro ⟨H2, H4, H11⟩
    unfold chunk1
    iapply (step_load c E K (m := arg2) (r := rC hh hn)) $$ [H2]
    · iexact H2
    iintro H2
    iapply (step_load c E K (m := arg4) (r := rV hn)) $$ [H4]
    · iexact H4
    iintro H4
    iapply (step_load c E K (m := arg11) (r := rS hn)) $$ [H11]
    · iexact H11
    iintro H11
    iapply (step_store c E K (m := arg11) (r := rS hn)) $$ [H11]
    · iexact H11
    iintro H11
    iapply Hk
    isplitl [H2]; · iexact H2
    isplitl [H4]; · iexact H4
    iexact H11

/-- The second pass's chunks of the new residual, from the first pass's chunks as they lie in scratch. -/
def hVal {h : Nat} (hh : h < 2) (r1 : FVec F S64x1 .f32) (X : Vec F S1x128x7168 .bf16) (T : Vec F S64x7168 .f32) (G : Vec F S1x7168 .f32)
    (c : Nat) (hc : c < 28) : FVec F S64x256 .bf16 := hChunk r1 (ld X (rB hh hc)) (ld T (rS hc)) (ld G (rV hc))

/-- The second pass lays the new residual over its block and the residual times the norm gain over the second
    scratch buffer, summing squares and taking maxima. -/
theorem phase2_wp (harg8 : arg8.IsWhole) {h : Nat} (hh : h < 2) (r1 : FVec F S64x1 .f32) (X : Vec F S1x128x7168 .bf16) (T : Vec F S64x7168 .f32)
    (G N : Vec F S1x7168 .f32) (Y : Vec F S1x128x7168 .bf16) (Z : Vec F S64x7168 .f32) :
    (n : Nat) → (hn : n ≤ 28) → (k : FVec F S64x128 .f32 → FVec F S64x128 .f32 → P F) →
    iprop(owns (c : Thread nD τ) arg5 fullShare G ∗ owns (c : Thread nD τ) arg6 fullShare X ∗ owns (c : Thread nD τ) arg7 fullShare N
      ∗ owns (c : Thread nD τ) arg8 fullShare Y ∗ owns (c : Thread nD τ) arg11 fullShare T ∗ owns (c : Thread nD τ) arg12 fullShare Z
      ∗ (iprop(owns (c : Thread nD τ) arg5 fullShare G ∗ owns (c : Thread nD τ) arg6 fullShare X ∗ owns (c : Thread nD τ) arg7 fullShare N
          ∗ owns (c : Thread nD τ) arg8 fullShare (fill (fun c hc => rB hh hc) (fun c hc => payB hh hc (hVal hh r1 X T G c hc)) Y n hn)
          ∗ owns (c : Thread nD τ) arg11 fullShare T
          ∗ owns (c : Thread nD τ) arg12 fullShare (fill (fun c hc => rS hc) (fun c hc => payS hc (gChunk (hVal hh r1 X T G c hc) (ld N (rV hc)))) Z n hn))
        -∗ wpP c E K (k (sums (fun c hc => wide (hVal hh r1 X T G c hc)) n hn) (maxes (fun c hc => gChunk (hVal hh r1 X T G c hc) (ld N (rV hc))) n hn))))
      ⊢ wpP c E K (phase2 arg5 arg6 arg7 arg8 arg11 arg12 harg8 hh r1 n hn k)
  | 0, _, k => by
    iintro ⟨H5, H6, H7, H8, H11, H12, Hk⟩
    iapply Hk
    isplitl [H5]; · iexact H5
    isplitl [H6]; · iexact H6
    isplitl [H7]; · iexact H7
    isplitl [H8]; · iexact H8
    isplitl [H11]; · iexact H11
    iexact H12
  | n + 1, hn, k => by
    iintro ⟨H5, H6, H7, H8, H11, H12, Hk⟩
    iapply phase2_wp harg8 hh r1 X T G N Y Z n (Nat.le_of_succ_le hn) (fun acc am => chunk2 arg5 arg6 arg7 arg8 arg11 arg12 harg8 hh hn r1 acc am k)
    isplitl [H5]; · iexact H5
    isplitl [H6]; · iexact H6
    isplitl [H7]; · iexact H7
    isplitl [H8]; · iexact H8
    isplitl [H11]; · iexact H11
    isplitl [H12]; · iexact H12
    iintro ⟨H5, H6, H7, H8, H11, H12⟩
    unfold chunk2
    iapply (step_load c E K (m := arg6) (r := rB hh hn)) $$ [H6]
    · iexact H6
    iintro H6
    iapply (step_load c E K (m := arg11) (r := rS hn)) $$ [H11]
    · iexact H11
    iintro H11
    iapply (step_load c E K (m := arg5) (r := rV hn)) $$ [H5]
    · iexact H5
    iintro H5
    iapply (step_load c E K (m := arg8) (r := rB hh hn)) $$ [H8]
    · iexact H8
    iintro H8
    iapply (step_store c E K (m := arg8) (r := rB hh hn)) $$ [H8]
    · iexact H8
    iintro H8
    iapply (step_load c E K (m := arg7) (r := rV hn)) $$ [H7]
    · iexact H7
    iintro H7
    iapply (step_load c E K (m := arg12) (r := rS hn)) $$ [H12]
    · iexact H12
    iintro H12
    iapply (step_store c E K (m := arg12) (r := rS hn)) $$ [H12]
    · iexact H12
    iintro H12
    iapply Hk
    isplitl [H5]; · iexact H5
    isplitl [H6]; · iexact H6
    isplitl [H7]; · iexact H7
    isplitl [H8]; · iexact H8
    isplitl [H11]; · iexact H11
    iexact H12

/-- The third pass lays the codes over their block. -/
theorem phase3_wp (harg9 : arg9.IsWhole) {h : Nat} (hh : h < 2) (m : FVec F S64x1 .f32) (Z : Vec F S64x7168 .f32) (Y : Vec F S1x128x7168 .fp8e4m3) :
    (n : Nat) → (hn : n ≤ 28) → (k : P F) →
    iprop(owns (c : Thread nD τ) arg9 fullShare Y ∗ owns (c : Thread nD τ) arg12 fullShare Z
      ∗ (iprop(owns (c : Thread nD τ) arg9 fullShare (fill (fun c hc => rB hh hc) (fun c hc => payB hh hc (qChunk m (ld Z (rS hc)))) Y n hn)
          ∗ owns (c : Thread nD τ) arg12 fullShare Z) -∗ wpP c E K k))
      ⊢ wpP c E K (phase3 arg9 arg12 harg9 hh m n hn k)
  | 0, _, k => by
    iintro ⟨H9, H12, Hk⟩
    iapply Hk
    isplitl [H9]; · iexact H9
    iexact H12
  | n + 1, hn, k => by
    iintro ⟨H9, H12, Hk⟩
    iapply phase3_wp harg9 hh m Z Y n (Nat.le_of_succ_le hn) (chunk3 arg9 arg12 harg9 hh hn m k)
    isplitl [H9]; · iexact H9
    isplitl [H12]; · iexact H12
    iintro ⟨H9, H12⟩
    unfold chunk3
    iapply (step_load c E K (m := arg12) (r := rS hn)) $$ [H12]
    · iexact H12
    iintro H12
    iapply (step_load c E K (m := arg9) (r := rB hh hn)) $$ [H9]
    · iexact H9
    iintro H9
    iapply (step_store c E K (m := arg9) (r := rB hh hn)) $$ [H9]
    · iexact H9
    iintro H9
    iapply Hk
    isplitl [H9]; · iexact H9
    iexact H12
end

end Cert.KernelIdeal.Sandwich
-- ==== Proof.Body.lean ====
/- The kernel's body at one grid point: from the blocks of its inputs to what it leaves in the blocks of
   its outputs. -/
module

public import proofs.«01_k».proof.Proof.Steps
public import Idealize.ShloMosaic.Lib.Pointwise.Index

@[expose] public section

set_option synthInstance.maxSize 4096
set_option maxRecDepth 16384

noncomputable section

namespace Cert.KernelIdeal.Sandwich

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen
open Idealize.ShloMosaic.View (ld)

variable {F : FTy → Type} [FloatOps F] [Named F]

local notation "𝕄" => MT nD τ sig Unit (Elt F) ℕ (UR sig nD τ) ℕ

/-! ## The values of a half -/

section
variable (sc : FVec F S4x128 .f32) (A : Vec F S4x1x128x7168 .fp8e4m3) (B G N : Vec F S1x7168 .f32) (X : Vec F S1x128x7168 .bf16)

/-- The first pass's chunks. -/
def tH {h : Nat} (hh : h < 2) (c : Nat) (hc : c < 28) : FVec F S64x256 .f32 := tVal hh (scaleMat h sc) A B c hc

/-- The first reciprocal root mean square. -/
def r1H {h : Nat} (hh : h < 2) : FVec F S64x1 .f32 := invRms (sums (tH sc A B hh) 28 (Nat.le_refl _))

/-- The new residual's chunks. -/
def hH {h : Nat} (hh : h < 2) (c : Nat) (hc : c < 28) : FVec F S64x256 .bf16 :=
  hChunk (r1H sc A B hh) (ld X (rB hh hc)) (payS hc (tH sc A B hh c hc)) (ld G (rV hc))

/-- The new residual's chunks times the norm gain. -/
def gH {h : Nat} (hh : h < 2) (c : Nat) (hc : c < 28) : FVec F S64x256 .f32 := gChunk (hH sc A B G X hh c hc) (ld N (rV hc))

/-- The second reciprocal root mean square. -/
def r2H {h : Nat} (hh : h < 2) : FVec F S64x1 .f32 := invRms (sums (fun c hc => wide (hH sc A B G X hh c hc)) 28 (Nat.le_refl _))

/-- The exponents of the rows' scales. -/
def eH {h : Nat} (hh : h < 2) : IVec S64x1 32 :=
  expo (biased (rowMax (maxes (gH sc A B G N X hh) 28 (Nat.le_refl _)) (r2H sc A B G X hh)))

/-- The codes' chunks. -/
def qH {h : Nat} (hh : h < 2) (c : Nat) (hc : c < 28) : FVec F S64x256 .fp8e4m3 :=
  qChunk (mulf (r2H sc A B G X hh) (invOf (eH sc A B G N X hh))) (payS hc (gH sc A B G N X hh c hc))

/-- The rows' scales. -/
def sH {h : Nat} (hh : h < 2) : FVec F S64x1 .f32 := scaleOf (eH sc A B G N X hh)
end

/-! ## The chunks' rectangles are apart and cover -/

theorem rS_apart : ∀ c hc c' hc', c < c' → ∀ x, (rS (c := c) hc).emb x ∉ (rS (c := c') hc').set := by
  intro c hc c' hc' h x hx
  have := (Rect.mem_set_unit.1 hx 1).1
  have h2 : (((rS hc).emb x) 1 : Nat) = 256 * c + 1 * (x 1 : Nat) := rfl
  have h3 : (x 1 : Nat) < 256 := (x 1).isLt
  have h4 : 256 * c' ≤ (((rS hc).emb x) 1 : Nat) := this
  omega

theorem rB_apart {h : Nat} (hh : h < 2) : ∀ c hc c' hc', c < c' → ∀ x, (rB hh (c := c) hc).emb x ∉ (rB hh (c := c') hc').set := by
  intro c hc c' hc' h x hx
  have := (Rect.mem_set_unit.1 hx 2).1
  have h2 : (((rB hh hc).emb x) 2 : Nat) = 256 * c + 1 * (x 2 : Nat) := rfl
  have h3 : (x 2 : Nat) < 256 := (x 2).isLt
  have h4 : 256 * c' ≤ (((rB hh hc).emb x) 2 : Nat) := this
  omega

theorem rB_other {c : Nat} (hc : c < 28) (x) : ∀ c' hc', (rB (h := 0) (by decide) hc).emb x ∉ (rB (h := 1) (by decide) (c := c') hc').set := by
  intro c' hc' hx
  have := (Rect.mem_set_unit.1 hx 1).1
  have h2 : (((rB (h := 0) (by decide) hc).emb x) 1 : Nat) = 64 * 0 + 1 * (x 1 : Nat) := rfl
  have h3 : (x 1 : Nat) < 64 := (x 1).isLt
  have h4 : 64 * 1 ≤ (((rB (h := 0) (by decide) hc).emb x) 1 : Nat) := this
  omega

/-- A block of rows from its chunks. -/
def ofChunks {α : Type} (w : (h : Nat) → h < 2 → (c : Nat) → c < 28 → S1x64x256.Idx → α) : S1x128x7168.Idx → α := fun y =>
  w ((y 1).val / 64) (by have : (y 1).val < 128 := (y 1).isLt; omega) ((y 2).val / 256) (by have : (y 2).val < 7168 := (y 2).isLt; omega)
    (ix3 0 ⟨(y 1).val % 64, Nat.mod_lt _ (by decide)⟩ ⟨(y 2).val % 256, Nat.mod_lt _ (by decide)⟩)

theorem ofChunks_emb {α : Type} (w : (h : Nat) → h < 2 → (c : Nat) → c < 28 → S1x64x256.Idx → α) {h c : Nat} (hh : h < 2) (hc : c < 28)
    (x : (rB hh hc).shape.Idx) : ofChunks w ((rB hh hc).emb x) = w h hh c hc x := by
  have key : ∀ h' hh' c' hc' (x' : S1x64x256.Idx), h' = h → c' = c → x' = x → w h' hh' c' hc' x' = w h hh c hc x := by
    rintro h' hh' c' hc' x' rfl rfl rfl; rfl
  have h1 : (x 1 : Nat) < 64 := (x 1).isLt
  have h2 : (x 2 : Nat) < 256 := (x 2).isLt
  have e1 : (((rB hh hc).emb x) 1 : Nat) = 64 * h + 1 * (x 1 : Nat) := rfl
  have e2 : (((rB hh hc).emb x) 2 : Nat) = 256 * c + 1 * (x 2 : Nat) := rfl
  refine key _ _ _ _ _ (by rw [e1]; omega) (by rw [e2]; omega) ?_
  funext a
  apply Fin.ext
  match a with
  | 0 => have : (x 0 : Nat) < 1 := (x 0).isLt
         show 0 = (x 0 : Nat); omega
  | 1 => show (((rB hh hc).emb x) 1 : Nat) % 64 = (x 1 : Nat); rw [e1]; omega
  | 2 => show (((rB hh hc).emb x) 2 : Nat) % 256 = (x 2 : Nat); rw [e2]; omega

theorem rB_cover (y : S1x128x7168.Idx) : ∃ (h c : Nat) (hh : h < 2) (hc : c < 28) (x : (rB hh hc).shape.Idx), (rB hh hc).emb x = y := by
  have h0 : (y 0).val < 1 := (y 0).isLt
  have h1 : (y 1).val < 128 := (y 1).isLt
  have h2 : (y 2).val < 7168 := (y 2).isLt
  refine ⟨(y 1).val / 64, (y 2).val / 256, by omega, by omega,
    (ix3 0 ⟨(y 1).val % 64, Nat.mod_lt _ (by decide)⟩ ⟨(y 2).val % 256, Nat.mod_lt _ (by decide)⟩ : S1x64x256.Idx), ?_⟩
  funext a
  apply Fin.ext
  match a with
  | 0 => show 0 + 1 * 0 = (y 0).val; omega
  | 1 => show 64 * ((y 1).val / 64) + 1 * ((y 1).val % 64) = (y 1).val; omega
  | 2 => show 256 * ((y 2).val / 256) + 1 * ((y 2).val % 256) = (y 2).val; omega

/-- Both halves laid over are the block of the chunks, whatever lay there. -/
theorem fill_halves {α : Type} (w : (h : Nat) → h < 2 → (c : Nat) → c < 28 → S1x64x256.Idx → α) (Y : S1x128x7168.Idx → α) :
    fill (fun c hc => rB (h := 1) (by decide) hc) (fun c hc => w 1 (by decide) c hc)
      (fill (fun c hc => rB (h := 0) (by decide) hc) (fun c hc => w 0 (by decide) c hc) Y 28 (Nat.le_refl _)) 28 (Nat.le_refl _) = ofChunks w := by
  funext y
  obtain ⟨h, c, hh, hc, x, rfl⟩ := rB_cover y
  rw [ofChunks_emb]
  obtain rfl | rfl : h = 0 ∨ h = 1 := by omega
  · rw [fill_of_not_mem _ _ _ _ (fun c' hc' => rB_other hc x c' hc')]
    exact fill_emb (fun c hc => rB (h := 0) (by decide) hc) (fun c hc => w 0 (by decide) c hc) Y (rB_apart (by decide)) c hc x 28 _ hc
  · exact fill_emb (fun c hc => rB (h := 1) (by decide) hc) (fun c hc => w 1 (by decide) c hc) _ (rB_apart (by decide)) c hc x 28 _ hc

/-- A chunk of the scratch buffer, every chunk laid over, is that chunk's value. -/
theorem ld_fillS (w : (c : Nat) → (hc : c < 28) → (rS hc).shape.Idx → Elt F .f32) (X : Vec F S64x7168 .f32) (c : Nat) (hc : c < 28) :
    ld (fill (fun c hc => rS hc) w X 28 (Nat.le_refl _)) (rS hc) = w c hc :=
  funext fun x => fill_emb (fun c hc => rS hc) w X rS_apart c hc x 28 _ hc

/-! ## The triples -/

variable (c : Dev nD) (E : Set ℕ) (K : PUnit.{1} → sProp (MT nD τ sig Unit (Elt F) ℕ (UR sig nD τ) ℕ))

section
variable {arg2 : Memref sig .tc .vmem S4x1x128x7168 .fp8e4m3} {arg4 : Memref sig .tc .vmem S1x7168 .f32} {arg5 : Memref sig .tc .vmem S1x7168 .f32}
  {arg6 : Memref sig .tc .vmem S1x128x7168 .bf16} {arg7 : Memref sig .tc .vmem S1x7168 .f32} {arg8 : Memref sig .tc .vmem S1x128x7168 .bf16}
  {arg9 : Memref sig .tc .vmem S1x128x7168 .fp8e4m3} {arg11 arg12 : Memref sig .tc .vmem S64x7168 .f32}

/-- The second pass where the values of its chunks are known to be `w`. -/
theorem phase2_wp_of (harg8 : arg8.IsWhole) {h : Nat} (hh : h < 2) (r1 : FVec F S64x1 .f32) (X : Vec F S1x128x7168 .bf16) (T : Vec F S64x7168 .f32)
    (G N : Vec F S1x7168 .f32) (Y : Vec F S1x128x7168 .bf16) (Z : Vec F S64x7168 .f32) (w : (c : Nat) → c < 28 → FVec F S64x256 .bf16)
    (hw : ∀ c hc, hVal hh r1 X T G c hc = w c hc) (k : FVec F S64x128 .f32 → FVec F S64x128 .f32 → P F) :
    iprop(owns (c : Thread nD τ) arg5 fullShare G ∗ owns (c : Thread nD τ) arg6 fullShare X ∗ owns (c : Thread nD τ) arg7 fullShare N
      ∗ owns (c : Thread nD τ) arg8 fullShare Y ∗ owns (c : Thread nD τ) arg11 fullShare T ∗ owns (c : Thread nD τ) arg12 fullShare Z
      ∗ (iprop(owns (c : Thread nD τ) arg5 fullShare G ∗ owns (c : Thread nD τ) arg6 fullShare X ∗ owns (c : Thread nD τ) arg7 fullShare N
          ∗ owns (c : Thread nD τ) arg8 fullShare (fill (fun c hc => rB hh hc) (fun c hc => payB hh hc (w c hc)) Y 28 (Nat.le_refl _))
          ∗ owns (c : Thread nD τ) arg11 fullShare T
          ∗ owns (c : Thread nD τ) arg12 fullShare (fill (fun c hc => rS hc) (fun c hc => payS hc (gChunk (w c hc) (ld N (rV hc)))) Z 28 (Nat.le_refl _)))
        -∗ wpP c E K (k (sums (fun c hc => wide (w c hc)) 28 (Nat.le_refl _)) (maxes (fun c hc => gChunk (w c hc) (ld N (rV hc))) 28 (Nat.le_refl _)))))
      ⊢ wpP c E K (phase2 arg5 arg6 arg7 arg8 arg11 arg12 harg8 hh r1 28 (Nat.le_refl _) k) := by
  obtain rfl : (fun c hc => hVal hh r1 X T G c hc) = w := funext fun c => funext fun hc => hw c hc
  exact phase2_wp c E K harg8 hh r1 X T G N Y Z 28 _ k

/-- The third pass where the chunks in scratch are known to be `w`. -/
theorem phase3_wp_of (harg9 : arg9.IsWhole) {h : Nat} (hh : h < 2) (m : FVec F S64x1 .f32) (Z : Vec F S64x7168 .f32) (Y : Vec F S1x128x7168 .fp8e4m3)
    (w : (c : Nat) → (hc : c < 28) → (rS hc).shape.Idx → Elt F .f32) (hw : ∀ c hc, ld Z (rS hc) = w c hc) (k : P F) :
    iprop(owns (c : Thread nD τ) arg9 fullShare Y ∗ owns (c : Thread nD τ) arg12 fullShare Z
      ∗ (iprop(owns (c : Thread nD τ) arg9 fullShare (fill (fun c hc => rB hh hc) (fun c hc => payB hh hc (qChunk m (w c hc))) Y 28 (Nat.le_refl _))
          ∗ owns (c : Thread nD τ) arg12 fullShare Z) -∗ wpP c E K k))
      ⊢ wpP c E K (phase3 arg9 arg12 harg9 hh m 28 (Nat.le_refl _) k) := by
  obtain rfl : (fun c hc => ld Z (rS hc)) = w := funext fun c => funext fun hc => hw c hc
  exact phase3_wp c E K harg9 hh m Z Y 28 _ k

/-- A half lays its new residual and its codes over their blocks. -/
theorem half_wp (harg8 : arg8.IsWhole) (harg9 : arg9.IsWhole) {h : Nat} (hh : h < 2) (sc : FVec F S4x128 .f32) (A : Vec F S4x1x128x7168 .fp8e4m3)
    (B G N : Vec F S1x7168 .f32) (X : Vec F S1x128x7168 .bf16) (Y8 : Vec F S1x128x7168 .bf16) (Y9 : Vec F S1x128x7168 .fp8e4m3)
    (T Z : Vec F S64x7168 .f32) (k : FVec F S64x1 .f32 → P F) :
    iprop(owns (c : Thread nD τ) arg2 fullShare A ∗ owns (c : Thread nD τ) arg4 fullShare B
      ∗ owns (c : Thread nD τ) arg5 fullShare G ∗ owns (c : Thread nD τ) arg6 fullShare X ∗ owns (c : Thread nD τ) arg7 fullShare N
      ∗ owns (c : Thread nD τ) arg8 fullShare Y8 ∗ owns (c : Thread nD τ) arg9 fullShare Y9
      ∗ owns (c : Thread nD τ) arg11 fullShare T ∗ owns (c : Thread nD τ) arg12 fullShare Z
      ∗ (∀ T Z, iprop(owns (c : Thread nD τ) arg2 fullShare A ∗ owns (c : Thread nD τ) arg4 fullShare B
          ∗ owns (c : Thread nD τ) arg5 fullShare G ∗ owns (c : Thread nD τ) arg6 fullShare X ∗ owns (c : Thread nD τ) arg7 fullShare N
          ∗ owns (c : Thread nD τ) arg8 fullShare (fill (fun c hc => rB hh hc) (fun c hc => payB hh hc (hH sc A B G X hh c hc)) Y8 28 (Nat.le_refl _))
          ∗ owns (c : Thread nD τ) arg9 fullShare (fill (fun c hc => rB hh hc) (fun c hc => payB hh hc (qH sc A B G N X hh c hc)) Y9 28 (Nat.le_refl _))
          ∗ owns (c : Thread nD τ) arg11 fullShare T ∗ owns (c : Thread nD τ) arg12 fullShare Z)
        -∗ wpP c E K (k (sH sc A B G N X hh))))
      ⊢ wpP c E K (halfProg arg2 arg4 arg5 arg6 arg7 arg8 arg9 arg11 arg12 harg8 harg9 hh (scaleMat h sc) k) := by
  rw [show sH sc A B G N X hh = scaleOf (expo (biased
    (rowMax (maxes (fun c hc => gChunk (hH sc A B G X hh c hc) (ld N (rV hc))) 28 (Nat.le_refl _))
      (invRms (sums (fun c hc => wide (hH sc A B G X hh c hc)) 28 (Nat.le_refl _)))))) from rfl]
  iintro ⟨H2, H4, H5, H6, H7, H8, H9, H11, H12, Hk⟩
  unfold halfProg
  iapply phase1_wp c E K hh (scaleMat h sc) A B T 28 (Nat.le_refl _)
  isplitl [H2]; · iexact H2
  isplitl [H4]; · iexact H4
  isplitl [H11]; · iexact H11
  iintro ⟨H2, H4, H11⟩
  iapply phase2_wp_of c E K harg8 hh _ X _ G N Y8 Z (hH sc A B G X hh) (fun c hc => by unfold hVal; rw [ld_fillS]; rfl)
  isplitl [H5]; · iexact H5
  isplitl [H6]; · iexact H6
  isplitl [H7]; · iexact H7
  isplitl [H8]; · iexact H8
  isplitl [H11]; · iexact H11
  isplitl [H12]; · iexact H12
  iintro ⟨H5, H6, H7, H8, H11, H12⟩
  iapply phase3_wp_of c E K harg9 hh _ _ Y9 (fun c hc => payS hc (gH sc A B G N X hh c hc)) (fun c hc => ld_fillS _ _ c hc)
  isplitl [H9]; · iexact H9
  isplitl [H12]; · iexact H12
  iintro ⟨H9, H12⟩
  iapply Hk
  isplitl [H2]; · iexact H2
  isplitl [H4]; · iexact H4
  isplitl [H5]; · iexact H5
  isplitl [H6]; · iexact H6
  isplitl [H7]; · iexact H7
  isplitl [H8]; · iexact H8
  isplitl [H9]; · iexact H9
  isplitl [H11]; · iexact H11
  iexact H12
end

/-! ## The scales' store -/

/-- The rectangle of the grid point's batch and tokens in the array of scales. -/
@[reducible] def rT {b j : Nat} (hb : b < 3) (hj : j < 16) : Rect S3x2048 :=
  Rect.unit (s := S3x2048) ![b, 128 * j] S1x128.size
    (fun a => match a with
      | ⟨0, _⟩ => by show b + 1 ≤ 3; omega
      | ⟨1, _⟩ => by show 128 * j + 128 ≤ 2048; omega)

theorem cond1_iff : ∀ i : grid0.Coords, k0_cond1 i = 1#1 ↔ (i 0).val = 0 := by decide +kernel
theorem cond2_iff : ∀ i : grid0.Coords, k0_cond2 i = 1#1 ↔ (i 0).val = 1 := by decide +kernel
theorem cond3_iff : ∀ i : grid0.Coords, k0_cond3 i = 1#1 ↔ (i 0).val = 2 := by decide +kernel

/-- One store of a block's scales. -/
theorem one_wp {arg10 : Memref sig .tc .vmem S3x2048 .f32} {b j : Nat} (hb : b < 3) (hj : j < 16) (v : FVec F S128 .f32) (X : Vec F S3x2048 .f32)
    (off : Fin 2 → Nat) (hoff : off = ![b, 128 * j]) (inb : ∀ a, off a + S1x128.size a ≤ S3x2048.size a) (k : PUnit → P F) (hl hx hm) :
    iprop(owns (c : Thread nD τ) arg10 fullShare X
      ∗ (owns (c : Thread nD τ) arg10 fullShare ((rT hb hj).overlay X (shapeCast S1x128 v shapeCasts_S128_S1x128)) -∗ wpP c E K (k ⟨⟩)))
      ⊢ wpP c E K (.op (.load arg10 (Rect.unit (s := S3x2048) off S1x128.size inb).toLoadRect hl) fun _ =>
        .op (.store arg10 (Rect.unit (s := S3x2048) off S1x128.size inb) (shapeCast S1x128 v shapeCasts_S128_S1x128) Finset.univ hx hm) k) := by
  subst hoff
  iintro ⟨H, Hk⟩
  iapply (step_load c E K (m := arg10) (r := rT hb hj)) $$ [H]
  · iexact H
  iintro H
  iapply (step_store c E K (m := arg10) (r := rT hb hj)) $$ [H]
  · iexact H
  iexact Hk

/-- The last step lays the block's scales over the array of scales. -/
theorem tail_wp (i : grid0.Coords) {arg10 : Memref sig .tc .vmem S3x2048 .f32} (v : FVec F S128 .f32) (X : Vec F S3x2048 .f32) :
    iprop(owns (c : Thread nD τ) arg10 fullShare X
      ∗ (owns (c : Thread nD τ) arg10 fullShare ((rT (i 0).isLt (i 1).isLt).overlay X (shapeCast S1x128 v shapeCasts_S128_S1x128)) -∗ K ⟨⟩))
      ⊢ wpP c E K (tailProg i arg10 v) := by
  have hb : (i 0).val < 3 := (i 0).isLt
  have ko := k0_off2_eq i
  unfold tailProg
  obtain h | h | h : (i 0).val = 0 ∨ (i 0).val = 1 ∨ (i 0).val = 2 := by omega
  · rw [dif_pos ((cond1_iff i).2 h), dif_neg (fun h' => by have := (cond2_iff i).1 h'; omega), dif_neg (fun h' => by have := (cond3_iff i).1 h'; omega)]
    refine .trans ?_ (one_wp c E K (i 0).isLt (i 1).isLt v X (k0_off2 i) ((k0_off2_eq i).trans (by rw [h])) (k0_off2_inb i ((cond1_iff i).2 h))
      (fun _ => Pure.pure PUnit.unit) _ _ _)
    iintro ⟨H, Hk⟩
    isplitl [H]; · iexact H
    iintro H
    rw [wpP, wp_pure]
    imodintro
    iapply Hk
    iexact H
  · rw [dif_neg (fun h' => by have := (cond1_iff i).1 h'; omega), dif_pos ((cond2_iff i).2 h), dif_neg (fun h' => by have := (cond3_iff i).1 h'; omega)]
    refine .trans ?_ (one_wp c E K (i 0).isLt (i 1).isLt v X (k0_off3 i) ((k0_off3_eq i).trans (by rw [h])) (k0_off3_inb i ((cond2_iff i).2 h))
      (fun _ => Pure.pure PUnit.unit) _ _ _)
    iintro ⟨H, Hk⟩
    isplitl [H]; · iexact H
    iintro H
    rw [wpP, wp_pure]
    imodintro
    iapply Hk
    iexact H
  · rw [dif_neg (fun h' => by have := (cond1_iff i).1 h'; omega), dif_neg (fun h' => by have := (cond2_iff i).1 h'; omega), dif_pos ((cond3_iff i).2 h)]
    refine .trans ?_ (one_wp c E K (i 0).isLt (i 1).isLt v X (k0_off4 i) ((k0_off4_eq i).trans (by rw [h])) (k0_off4_inb i ((cond3_iff i).2 h))
      (fun _ => Pure.pure PUnit.unit) _ _ _)
    iintro ⟨H, Hk⟩
    isplitl [H]; · iexact H
    iintro H
    rw [wpP, wp_pure]
    imodintro
    iapply Hk
    iexact H

/-! ## The body -/

section
variable (i : grid0.Coords) (x0 : Vec F S4x1x128x7168 .fp8e4m3) (x1 : Vec F S4x3x2048 .f32) (x2 x3 : Vec F S1x7168 .f32)
  (x4 : Vec F S1x128x7168 .bf16) (x5 : Vec F S1x7168 .f32)

/-- The partials' scales at the point's batch and tokens. -/
def scB : FVec F S4x128 .f32 :=
  batchScales i (ld x1 (Rect.unit (s := S4x3x2048) (k0_off1 i) S4x3x128.size (k0_off1_inb i)))

/-- The block of the new residual. -/
def resB : Vec F S1x128x7168 .bf16 := ofChunks fun h hh c hc => payB hh hc (hH (scB i x1) x0 x2 x3 x4 hh c hc)

/-- The block of codes. -/
def codB : Vec F S1x128x7168 .fp8e4m3 := ofChunks fun h hh c hc => payB hh hc (qH (scB i x1) x0 x2 x3 x5 x4 hh c hc)

/-- The block's scales. -/
def scaB : FVec F S128 .f32 :=
  laneScales (sH (scB i x1) x0 x2 x3 x5 x4 (h := 0) (by decide)) (sH (scB i x1) x0 x2 x3 x5 x4 (h := 1) (by decide))
end

/-- The body: from the inputs' blocks to the outputs' blocks, the scales laid over the array of scales. -/
theorem body_wp (i : grid0.Coords) (arg2 : Memref sig .tc .vmem S4x1x128x7168 .fp8e4m3) (harg2 : arg2.IsWhole) (arg3 : Memref sig .tc .vmem S4x3x2048 .f32) (harg3 : arg3.IsWhole) (arg4 : Memref sig .tc .vmem S1x7168 .f32) (harg4 : arg4.IsWhole) (arg5 : Memref sig .tc .vmem S1x7168 .f32) (harg5 : arg5.IsWhole) (arg6 : Memref sig .tc .vmem S1x128x7168 .bf16) (harg6 : arg6.IsWhole) (arg7 : Memref sig .tc .vmem S1x7168 .f32) (harg7 : arg7.IsWhole) (arg8 : Memref sig .tc .vmem S1x128x7168 .bf16) (harg8 : arg8.IsWhole) (arg9 : Memref sig .tc .vmem S1x128x7168 .fp8e4m3) (harg9 : arg9.IsWhole) (arg10 : Memref sig .tc .vmem S3x2048 .f32) (harg10 : arg10.IsWhole) (arg11 : Memref sig .tc .vmem S64x7168 .f32) (harg11 : arg11.IsWhole) (arg12 : Memref sig .tc .vmem S64x7168 .f32) (harg12 : arg12.IsWhole)
    (x0 : Vec F S4x1x128x7168 .fp8e4m3) (x1 : Vec F S4x3x2048 .f32) (x2 : Vec F S1x7168 .f32) (x3 : Vec F S1x7168 .f32)
    (x4 : Vec F S1x128x7168 .bf16) (x5 : Vec F S1x7168 .f32) (x8 : Vec F S3x2048 .f32) :
    iprop(owns (c : Thread nD τ) arg2 fullShare x0 ∗ owns (c : Thread nD τ) arg3 fullShare x1 ∗ owns (c : Thread nD τ) arg4 fullShare x2
      ∗ owns (c : Thread nD τ) arg5 fullShare x3 ∗ owns (c : Thread nD τ) arg6 fullShare x4 ∗ owns (c : Thread nD τ) arg7 fullShare x5
      ∗ (∃ d, owns (c : Thread nD τ) arg8 fullShare d) ∗ (∃ d, owns (c : Thread nD τ) arg9 fullShare d) ∗ owns (c : Thread nD τ) arg10 fullShare x8
      ∗ (∃ d, owns (c : Thread nD τ) arg11 fullShare d) ∗ (∃ d, owns (c : Thread nD τ) arg12 fullShare d)
      ∗ (iprop(owns (c : Thread nD τ) arg2 fullShare x0 ∗ owns (c : Thread nD τ) arg3 fullShare x1 ∗ owns (c : Thread nD τ) arg4 fullShare x2
          ∗ owns (c : Thread nD τ) arg5 fullShare x3 ∗ owns (c : Thread nD τ) arg6 fullShare x4 ∗ owns (c : Thread nD τ) arg7 fullShare x5
          ∗ owns (c : Thread nD τ) arg8 fullShare (resB i x0 x1 x2 x3 x4) ∗ owns (c : Thread nD τ) arg9 fullShare (codB i x0 x1 x2 x3 x4 x5)
          ∗ owns (c : Thread nD τ) arg10 fullShare ((rT (i 0).isLt (i 1).isLt).overlay x8 (shapeCast S1x128 (scaB i x0 x1 x2 x3 x4 x5) shapeCasts_S128_S1x128))
          ∗ (∃ d, owns (c : Thread nD τ) arg11 fullShare d) ∗ (∃ d, owns (c : Thread nD τ) arg12 fullShare d)) -∗ K ⟨⟩))
      ⊢ wp frame (wpE (defs₀ (F := F)) Variants.none c none) E
        (cc0_sandwich_quant i arg2 harg2 arg3 harg3 arg4 harg4 arg5 harg5 arg6 harg6 arg7 harg7 arg8 harg8 arg9 harg9 arg10 harg10 arg11 harg11 arg12 harg12) K := by
  rw [body_eq]
  iintro ⟨H2, H3, H4, H5, H6, H7, ⟨%Y8, H8⟩, ⟨%Y9, H9⟩, H10, ⟨%T, H11⟩, ⟨%Z, H12⟩, Hk⟩
  unfold loops
  iapply (step_load c E K (m := arg3) (r := Rect.unit (s := S4x3x2048) (k0_off1 i) S4x3x128.size (k0_off1_inb i))) $$ [H3]
  · iexact H3
  iintro H3
  iapply half_wp c E K harg8 harg9 (h := 0) (by decide) (scB i x1) x0 x2 x3 x5 x4 Y8 Y9 T Z
  isplitl [H2]; · iexact H2
  isplitl [H4]; · iexact H4
  isplitl [H5]; · iexact H5
  isplitl [H6]; · iexact H6
  isplitl [H7]; · iexact H7
  isplitl [H8]; · iexact H8
  isplitl [H9]; · iexact H9
  isplitl [H11]; · iexact H11
  isplitl [H12]; · iexact H12
  iintro %T1 %Z1 ⟨H2, H4, H5, H6, H7, H8, H9, H11, H12⟩
  iapply half_wp c E K harg8 harg9 (h := 1) (by decide) (scB i x1) x0 x2 x3 x5 x4 _ _ T1 Z1
  isplitl [H2]; · iexact H2
  isplitl [H4]; · iexact H4
  isplitl [H5]; · iexact H5
  isplitl [H6]; · iexact H6
  isplitl [H7]; · iexact H7
  isplitl [H8]; · iexact H8
  isplitl [H9]; · iexact H9
  isplitl [H11]; · iexact H11
  isplitl [H12]; · iexact H12
  iintro %T2 %Z2 ⟨H2, H4, H5, H6, H7, H8, H9, H11, H12⟩
  iapply tail_wp c E K i (scaB i x0 x1 x2 x3 x4 x5) x8
  isplitl [H10]; · iexact H10
  iintro H10
  rw [fill_halves (fun h hh c hc => payB hh hc (hH (scB i x1) x0 x2 x3 x4 hh c hc)) Y8,
    fill_halves (fun h hh c hc => payB hh hc (qH (scB i x1) x0 x2 x3 x5 x4 hh c hc)) Y9]
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iexists _; iexact H12

end Cert.KernelIdeal.Sandwich
-- ==== Proof.Run.lean ====
/- The run of the idealized kernel: the proof data of its pipeline, with the outputs' blocks named point by point,
   the body obligation, and the launch. -/
module

public import proofs.«01_k».proof.Proof.Body
public import Idealize.ShloMosaic.Lib.Pipeline.DatRel
public import Idealize.ShloMosaic.Lib.Pipeline.ArrRel
public import Idealize.ShloMosaic.Lib.Claim

@[expose] public section

set_option synthInstance.maxSize 4096
set_option maxRecDepth 16384

noncomputable section

namespace Cert.KernelIdeal.Sandwich

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen
open Idealize.ShloMosaic.View (ld)

open Idealize.ShloMosaic.Pipeline (Dat RDat Cfg Window BodyObligationRel)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The proof data -/

/-- The block of the new residual that point `t` leaves. -/
def resAt (c : Dev nD) (t : Fin cfg0.N) : Vec F S1x128x7168 .bf16 :=
  resB (grid0.coords t) (iblk m c 0 t) (iblk m c 1 t) (iblk m c 2 t) (iblk m c 3 t) (iblk m c 4 t)

/-- The block of codes that point `t` leaves. -/
def codAt (c : Dev nD) (t : Fin cfg0.N) : Vec F S1x128x7168 .fp8e4m3 :=
  codB (grid0.coords t) (iblk m c 0 t) (iblk m c 1 t) (iblk m c 2 t) (iblk m c 3 t) (iblk m c 4 t) (iblk m c 5 t)

/-- The scales that point `t` lays over the array of scales. -/
def scaAt (c : Dev nD) (t : Fin cfg0.N) : S1x128.Idx → F .f32 :=
  shapeCast S1x128 (scaB (grid0.coords t) (iblk m c 0 t) (iblk m c 1 t) (iblk m c 2 t) (iblk m c 3 t) (iblk m c 4 t) (iblk m c 5 t))
    shapeCasts_S128_S1x128

/-- The rectangle of the array of scales that point `t` writes. -/
@[reducible] def rAt (t : Fin cfg0.N) : Rect S3x2048 := rT (grid0.coords t 0).isLt (grid0.coords t 1).isLt

/-- The array of scales holds the scales of every point below `n`. -/
def ScalesTo (c : Dev nD) (n : Nat) (X : Vec F S3x2048 .f32) : Prop :=
  ∀ u : Fin cfg0.N, u.val < n → ∀ x : S1x128.Idx, X ((rAt u).emb x) = scaAt m c u x

/-- The windows whose contents a predicate states: the outputs. -/
def marks : Fin 9 → Bool := fun w => w.val == 6 || w.val == 7 || w.val == 8

/-- What the body leaves in an output: its block of the new residual, its block of codes, and, of the array of
    scales, the scales of every point so far. -/
def Left (c : Dev nD) (w : Fin cfg0.W) (t : Fin cfg0.N) (X : (cfg0.win w).block.Idx → Elt F (cfg0.win w).elt) : Prop :=
  match w, X with
  | ⟨6, _⟩, X => X = resAt m c t
  | ⟨7, _⟩, X => X = codAt m c t
  | ⟨8, _⟩, X => ScalesTo m c (t.val + 1) X
  | _, _ => True

/-- The proof data: each input's buffer at its block, the outputs left to `Left`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q _ := fullShare
  owed _ := 0

/-- The data with the outputs held to `Left`. -/
def rdat (c : Dev nD) : RDat τ (Elt F) Unit ℕ (UR sig nD τ) ℕ cfg0 c := (dats m 0 c).toRRel marks (Left m c)

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-! ## The body obligation -/

/-- Window 0's staging buffer at point `t`. -/
abbrev ms0 (t : Fin cfg0.N) : Memref sig .tc .vmem S4x1x128x7168 .fp8e4m3 := win0_0.stage (cfg0.slots t 0)
/-- Window 1's staging buffer at point `t`. -/
abbrev ms1 (t : Fin cfg0.N) : Memref sig .tc .vmem S4x3x2048 .f32 := win0_1.stage (cfg0.slots t 1)
/-- Window 2's staging buffer at point `t`. -/
abbrev ms2 (t : Fin cfg0.N) : Memref sig .tc .vmem S1x7168 .f32 := win0_2.stage (cfg0.slots t 2)
/-- Window 3's staging buffer at point `t`. -/
abbrev ms3 (t : Fin cfg0.N) : Memref sig .tc .vmem S1x7168 .f32 := win0_3.stage (cfg0.slots t 3)
/-- Window 4's staging buffer at point `t`. -/
abbrev ms4 (t : Fin cfg0.N) : Memref sig .tc .vmem S1x128x7168 .bf16 := win0_4.stage (cfg0.slots t 4)
/-- Window 5's staging buffer at point `t`. -/
abbrev ms5 (t : Fin cfg0.N) : Memref sig .tc .vmem S1x7168 .f32 := win0_5.stage (cfg0.slots t 5)
/-- Window 6's staging buffer at point `t`. -/
abbrev ms6 (t : Fin cfg0.N) : Memref sig .tc .vmem S1x128x7168 .bf16 := win0_6.stage (cfg0.slots t 6)
/-- Window 7's staging buffer at point `t`. -/
abbrev ms7 (t : Fin cfg0.N) : Memref sig .tc .vmem S1x128x7168 .fp8e4m3 := win0_7.stage (cfg0.slots t 7)
/-- Window 8's staging buffer at point `t`. -/
abbrev ms8 (t : Fin cfg0.N) : Memref sig .tc .vmem S3x2048 .f32 := win0_8.stage (cfg0.slots t 8)
/-- The scratch buffers. -/
abbrev sc0 : Memref sig .tc .vmem S64x7168 .f32 := Memref.whole cc0_scratch0
abbrev sc1 : Memref sig .tc .vmem S64x7168 .f32 := Memref.whole cc0_scratch1

theorem PhiA_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ Y, ⌜(rdat m c).Finds 6 t Y⌝ ∗ owns (c : Thread nD τ) (ms6 t) fullShare Y)
    ∗ (∃ Y, ⌜(rdat m c).Finds 7 t Y⌝ ∗ owns (c : Thread nD τ) (ms7 t) fullShare Y)
    ∗ (∃ Y, ⌜(rdat m c).Finds 8 t Y⌝ ∗ owns (c : Thread nD τ) (ms8 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare (iblk m c 0 t)
    ∗ owns (c : Thread nD τ) (ms1 t) fullShare (iblk m c 1 t)
    ∗ owns (c : Thread nD τ) (ms2 t) fullShare (iblk m c 2 t)
    ∗ owns (c : Thread nD τ) (ms3 t) fullShare (iblk m c 3 t)
    ∗ owns (c : Thread nD τ) (ms4 t) fullShare (iblk m c 4 t)
    ∗ owns (c : Thread nD τ) (ms5 t) fullShare (iblk m c 5 t)
    ∗ (∃ X, ⌜Left m c 6 t X⌝ ∗ owns (c : Thread nD τ) (ms6 t) fullShare X)
    ∗ (∃ X, ⌜Left m c 7 t X⌝ ∗ owns (c : Thread nD τ) (ms7 t) fullShare X)
    ∗ (∃ X, ⌜Left m c 8 t X⌝ ∗ owns (c : Thread nD τ) (ms8 t) fullShare X))

/-- The array of scales is not fetched. -/
theorem fetch_8 (t : Fin cfg0.N) : (cfg0.win 8).fetch t = false := rfl

/-- The buffer of the array of scales is found with the scales of the points before. -/
theorem finds_8 (c : Dev nD) (t : Fin cfg0.N) (Y : Vec F S3x2048 .f32) (h : (rdat m c).Finds 8 t Y) : ScalesTo m c t.val Y := by
  have hN : t.val < 48 := lt_of_lt_of_eq t.isLt (show cfg0.N = 48 from N_0)
  by_cases ht : t.val = 0
  · intro u hu; omega
  · rcases ((rdat m c).finds_of_pos (fetch_8 t) ht Y).1 h with hf | hL
    · have := (flush0_8 _).1 hf
      simp only at this; omega
    · have h2 : ScalesTo m c (t.val - 1 + 1) Y := (dats m 0 c).toRRel_leaves (w := 8) rfl hL
      rwa [Nat.sub_add_cancel (Nat.pos_of_ne_zero ht)] at h2

/-- The points' rectangles of scales are apart. -/
theorem rAt_apart {u t : Fin cfg0.N} (h : u.val < t.val) (x : S1x128.Idx) : (rAt u).emb x ∉ (rAt t).set := by
  intro hx
  have hN : t.val < 48 := lt_of_lt_of_eq t.isLt (show cfg0.N = 48 from N_0)
  have a0 : (grid0.coords u 0).val = u.val / 16 % 3 := Pipeline.Grid.coords_val u 0 (by decide) rfl
  have a1 : (grid0.coords u 1).val = u.val / 1 % 16 := Pipeline.Grid.coords_val u 1 (by decide) rfl
  have b0 : (grid0.coords t 0).val = t.val / 16 % 3 := Pipeline.Grid.coords_val t 0 (by decide) rfl
  have b1 : (grid0.coords t 1).val = t.val / 1 % 16 := Pipeline.Grid.coords_val t 1 (by decide) rfl
  have h0 := Rect.mem_set_unit.1 hx 0
  have h1 := Rect.mem_set_unit.1 hx 1
  have e0 : (((rAt u).emb x) 0 : Nat) = (grid0.coords u 0).val + 1 * (x 0 : Nat) := rfl
  have e1 : (((rAt u).emb x) 1 : Nat) = 128 * (grid0.coords u 1).val + 1 * (x 1 : Nat) := rfl
  have x0 : (x 0 : Nat) < 1 := (x 0).isLt
  have x1 : (x 1 : Nat) < 128 := (x 1).isLt
  have h0' : (grid0.coords t 0).val ≤ (((rAt u).emb x) 0 : Nat) ∧ (((rAt u).emb x) 0 : Nat) < (grid0.coords t 0).val + 1 := h0
  have h1' : 128 * (grid0.coords t 1).val ≤ (((rAt u).emb x) 1 : Nat) ∧ (((rAt u).emb x) 1 : Nat) < 128 * (grid0.coords t 1).val + 128 := h1
  omega

/-- The point's scales laid over, the array holds the scales of every point so far. -/
theorem scalesTo_succ (c : Dev nD) (t : Fin cfg0.N) (Y : Vec F S3x2048 .f32) (h : ScalesTo m c t.val Y) :
    ScalesTo m c (t.val + 1) ((rAt t).overlay Y (scaAt m c t)) := by
  intro u hu x
  rcases Nat.lt_succ_iff_lt_or_eq.1 hu with h' | h'
  · rw [Rect.overlay_of_not_mem _ _ _ (rAt_apart h' x)]; exact h u h' x
  · obtain rfl : u = t := Fin.ext h'
    exact (rAt u).overlay_emb _ _ x

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, %hd6, H6⟩, ⟨%d7, %hd7, H7⟩, ⟨%d8, %hd8, H8⟩⟩
  iapply (body_wp c Set.univ _ (grid0.coords t) _ _ _ _ _ _ _ _ _ _ _ _ _ _ _ _ _ _ _ _ _ _ (iblk m c 0 t) (iblk m c 1 t) (iblk m c 2 t) (iblk m c 3 t) (iblk m c 4 t) (iblk m c 5 t) d8)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexact H8
  isplitl [HS0]; · iexact HS0
  isplitl [HS1]; · iexact HS1
  iintro ⟨H0, H1, H2, H3, H4, H5, H6, H7, H8, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists _; isplitr; swap; · iexact H6
    ipureintro; rfl
  isplitl [H7]
  · iexists _; isplitr; swap; · iexact H7
    ipureintro; rfl
  iexists _; isplitr; swap; · iexact H8
  ipureintro; exact scalesTo_succ m c t d8 (finds_8 m c t d8 hd8)

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) :
    BodyObligationRel (dats (F := F) m 0 c) (defs₀ (F := F)) Variants.none () Set.univ marks (Left m c) := fun t => by
  rw [bigSep_W0, bigSep_W0, defs₀_row]
  exact triple_restated (sound_body m c t) rfl .rfl fun _ => .rfl

/-! ## The run -/

set_option backward.isDefEq.respectTransparency.types false in
/-- The launch: every window array ends as the data say, every other buffer as at entry, every counter at zero. -/
theorem run_main : θ_run defs (onTc (τ := τ) (main (F := F))) (s₀ m ρ)
    (fun r => RDat.FramePost (cfgs 0) (rdat m) (V m) r ∧ r.2.sem = fun _ => 0) :=
  RDat.θ_run_frame cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl) (Q' := _)

end Cert.KernelIdeal.Sandwich
-- ==== Proof.Spec.lean ====
/- The mathematics of one row: the shards' codes times their scales summed with a bias, the first root mean square
   norm, the residual, the second norm, and the quantiser with a power-of-two scale. All over extended reals, with the
   facts about these quantities that do not depend on how they are computed. -/
module

public import Idealize.ShloMosaic.Lib.Pointwise

@[expose] public section

noncomputable section

namespace Cert.Spec

open Idealize.ShloMosaic

/-- What is added to the mean of squares. -/
def eps : EReal := Ideal.ofBits .f32 0x358637BD#32
/-- The reciprocal of the largest code, as rounded. -/
def c448 : EReal := Ideal.ofBits .f32 0x3B124925#32
/-- The largest code. -/
def top8 : EReal := Ideal.ofBits .f32 0x43E00000#32
/-- Minus the largest code. -/
def bot8 : EReal := Ideal.ofBits .f32 0xC3E00000#32

/-- The sum over shards of codes times scales, and the bias. -/
def pre (p : Fin 4 → Fin 7168 → EReal) (s : Fin 4 → EReal) (b : Fin 7168 → EReal) (j : Fin 7168) : EReal :=
  (p 0 j * s 0 + p 1 j * s 1 + p 2 j * s 2 + p 3 j * s 3) + b j

/-- The same with each scale taken in three parts: itself, what subtracting it leaves, and what doing so again leaves. -/
def preParts (p : Fin 4 → Fin 7168 → EReal) (s : Fin 4 → EReal) (b : Fin 7168 → EReal) (j : Fin 7168) : EReal :=
  ((b j + ∑ k, p k j * s k) + ∑ k, p k j * (s k - s k)) + ∑ k, p k j * ((s k - s k) - (s k - s k))

/-- The reciprocal root mean square of a row. -/
def inv (w : Fin 7168 → EReal) : EReal := Ideal.rsqrt ((∑ j, w j * w j) * ((1 / 7168 : ℝ) : EReal) + eps)

/-- The new residual from the sum of shards. -/
def resid (v g x : Fin 7168 → EReal) (j : Fin 7168) : EReal := x j + v j * inv v * g j

/-- The normed residual. -/
def normed (h n : Fin 7168 → EReal) (j : Fin 7168) : EReal := h j * inv h * n j

/-- The largest magnitude of a row over the largest code. -/
def amax (y : Fin 7168 → EReal) : EReal := (Finset.univ.fold max ⊥ fun j => max (y j) (-y j)) * c448

/-- The exponent of the scale for a quotient `a`. -/
def expo (a : EReal) : EReal :=
  if a < Ideal.ofBits .f32 0x00800000#32 then 0
  else Ideal.liftRound Int.floor (Ideal.div (Ideal.log a) (Ideal.log (Ideal.ofBits .f32 0x40000000#32))) + 1

/-- The code of a value under the scale `2 ^ e`. -/
def code (y e : EReal) : EReal := min top8 (max bot8 (y * Ideal.exp2 (0 - e)))

/-! ## Literals -/

theorem eps_eq : eps = (((8796093 : ℝ) * 2 ^ (-43 : ℤ) : ℝ) : EReal) := by
  simp [eps, Ideal.ofBits, Ideal.ieee, -EReal.coe_mul]; try norm_num

theorem c448_eq : c448 = (((9586981 : ℝ) * 2 ^ (-32 : ℤ) : ℝ) : EReal) := by
  simp [c448, Ideal.ofBits, Ideal.ieee, -EReal.coe_mul]; try norm_num

theorem eps_pos : ∃ e : ℝ, 0 < e ∧ eps = e := ⟨_, by positivity, eps_eq⟩

theorem tiny_eq : Ideal.ofBits .f32 0x00800000#32 = (((2 : ℝ) ^ (-126 : ℤ) : ℝ) : EReal) := by
  simp [Ideal.ofBits, Ideal.ieee, -EReal.coe_mul]; try norm_num

theorem two_eq : Ideal.ofBits .f32 0x40000000#32 = ((2 : ℝ) : EReal) := by
  simp [Ideal.ofBits, Ideal.ieee, -EReal.coe_mul]; try norm_num

theorem one_eq : Ideal.ofBits .f32 0x3F800000#32 = 1 := by
  simp [Ideal.ofBits, Ideal.ieee, -EReal.coe_mul]; try norm_num

theorem d_eq : Ideal.ofBits .f32 0x45E00000#32 = ((7168 : ℝ) : EReal) := by
  simp [Ideal.ofBits, Ideal.ieee, -EReal.coe_mul]; try norm_num

theorem ninf_eq : Ideal.ofBits .f32 0xFF800000#32 = ⊥ := by
  simp [Ideal.ofBits, Ideal.ieee, -EReal.coe_mul]

theorem inf_eq : Ideal.ofBits .f32 0x7F800000#32 = ⊤ := by
  simp [Ideal.ofBits, Ideal.ieee, -EReal.coe_mul]

theorem fmax_eq : Ideal.ofBits .f32 0x7F7FFFFF#32 = (((16777215 : ℝ) * 2 ^ (104 : ℤ) : ℝ) : EReal) := by
  simp [Ideal.ofBits, Ideal.ieee, -EReal.coe_mul]; try norm_num

/-- A float whose fraction is zero is a power of two. -/
theorem pow_bits {k : Nat} (h1 : 1 ≤ k) (h2 : k ≤ 254) :
    Ideal.ofBits .f32 (BitVec.ofNat 32 (k * 2 ^ 23)) = (((2 : ℝ) ^ ((k : ℤ) - 127) : ℝ) : EReal) := by
  have key : ∀ k : Fin 256, (BitVec.ofNat 32 (k.val * 2 ^ 23)).extractLsb' 31 1 = 0#1
      ∧ ((BitVec.ofNat 32 (k.val * 2 ^ 23)).extractLsb' 23 8).toNat = k.val
      ∧ ((BitVec.ofNat 32 (k.val * 2 ^ 23)).extractLsb' 0 23).toNat = 0 := by decide +kernel
  obtain ⟨ha, hb, hc⟩ := key ⟨k, by omega⟩
  simp only [Ideal.ofBits, Ideal.ieee, Nat.reduceAdd, ha, hb, hc]
  have h3 : (2 : ℝ) ^ ((k : ℤ) - 127) = 2 ^ 23 * 2 ^ ((k : ℤ) - 127 - 23) := by
    rw [← zpow_natCast, ← zpow_add₀ (by norm_num)]; congr 1; push_cast; ring
  rw [if_neg (by norm_num; omega), if_neg (by omega), h3]
  norm_num

/-! ## The ideal operations at a real -/

theorem rsqrt_top : Ideal.rsqrt ⊤ = 0 := rfl
theorem rsqrt_pos {r : ℝ} (h : 0 < r) : Ideal.rsqrt (r : EReal) = (((Real.sqrt r)⁻¹ : ℝ) : EReal) :=
  (if_neg (not_lt.2 h.le)).trans (if_neg h.ne')
theorem log_pos {r : ℝ} (h : 0 < r) : Ideal.log (r : EReal) = ((Real.log r : ℝ) : EReal) := if_neg (not_le.2 h)
theorem floor_coe (r : ℝ) : Ideal.liftRound Int.floor (r : EReal) = (((⌊r⌋ : ℤ) : ℝ) : EReal) := rfl

/-! ## The norm -/

theorem sq_nonneg (x : EReal) : 0 ≤ x * x := by
  induction x with
  | bot => simp
  | top => simp
  | coe r => rw [← EReal.coe_mul]; exact_mod_cast mul_self_nonneg r

theorem sum_sq_nonneg (w : Fin 7168 → EReal) : 0 ≤ ∑ j, w j * w j := Finset.sum_nonneg fun j _ => sq_nonneg _

/-- The reciprocal root mean square is a nonnegative real. -/
theorem inv_real (w : Fin 7168 → EReal) : ∃ r : ℝ, 0 ≤ r ∧ inv w = r := by
  have h := sum_sq_nonneg w
  obtain ⟨e, he, hE⟩ := eps_pos
  unfold inv
  rw [hE]
  generalize ∑ j, w j * w j = S at h
  induction S with
  | bot => simp at h
  | top =>
    refine ⟨0, le_refl _, ?_⟩
    rw [EReal.top_mul_coe_of_pos (by norm_num), EReal.top_add_coe, rsqrt_top]; rfl
  | coe s =>
    have hs : 0 ≤ s := by exact_mod_cast h
    rw [← EReal.coe_mul, ← EReal.coe_add]
    have hp : 0 < s * (1 / 7168) + e := by positivity
    exact ⟨(Real.sqrt (s * (1 / 7168) + e))⁻¹, by positivity, rsqrt_pos hp⟩

/-! ## The scales in parts -/

/-- Whether an extended real is a real. -/
def IsReal (x : EReal) : Prop := ∃ r : ℝ, x = r

/-- A sum is real only if both of its terms are. -/
theorem IsReal.of_add {x y : EReal} (h : IsReal (x + y)) : IsReal x ∧ IsReal y := by
  obtain ⟨r, hr⟩ := h
  induction x with
  | bot => simp at hr
  | top => induction y with
    | bot => simp at hr
    | top => simp at hr
    | coe y => simp at hr
  | coe x => induction y with
    | bot => simp at hr
    | top => simp at hr
    | coe y => exact ⟨⟨x, rfl⟩, ⟨y, rfl⟩⟩

theorem sub_self_of_real {x : EReal} (h : IsReal x) : x - x = 0 := by
  obtain ⟨r, rfl⟩ := h; rw [← EReal.coe_sub, sub_self]; rfl

theorem mul_not_real {x y : EReal} (hx : x ≠ 0) (hy : ¬ IsReal y) : ¬ IsReal (x * y) := by
  rintro ⟨r, hr⟩
  induction y with
  | coe y => exact hy ⟨y, rfl⟩
  | top =>
    rcases lt_or_gt_of_ne hx with h | h
    · rw [EReal.mul_top_of_neg h] at hr; exact EReal.coe_ne_bot r hr.symm
    · rw [EReal.mul_top_of_pos h] at hr; exact EReal.coe_ne_top r hr.symm
  | bot =>
    rcases lt_or_gt_of_ne hx with h | h
    · rw [EReal.mul_bot_of_neg h] at hr; exact EReal.coe_ne_top r hr.symm
    · rw [EReal.mul_bot_of_pos h] at hr; exact EReal.coe_ne_bot r hr.symm

/-- A row with an element that is not real has the reciprocal root mean square zero. -/
theorem inv_zero {w : Fin 7168 → EReal} {j : Fin 7168} (h : ¬ IsReal (w j)) : inv w = 0 := by
  have h1 : w j * w j = ⊤ := by
    generalize w j = x at h
    induction x with
    | bot => rfl
    | top => rfl
    | coe r => exact absurd ⟨r, rfl⟩ h
  have h2 : w j * w j ≤ ∑ j, w j * w j := Finset.single_le_sum (f := fun j => w j * w j) (fun i _ => sq_nonneg _) (Finset.mem_univ j)
  obtain ⟨e, he, hE⟩ := eps_pos
  unfold inv
  have h3 : ∑ j, w j * w j = ⊤ := by rw [h1] at h2; exact top_le_iff.1 h2
  rw [h3, hE, EReal.top_mul_coe_of_pos (by norm_num), EReal.top_add_coe, rsqrt_top]

/-- The two sums agree, or neither is real. -/
theorem preParts_or (p : Fin 4 → Fin 7168 → EReal) (s : Fin 4 → EReal) (b : Fin 7168 → EReal) (j : Fin 7168) :
    preParts p s b j = pre p s b j ∨ ¬ IsReal (preParts p s b j) ∧ ¬ IsReal (pre p s b j) := by
  have e : b j + ∑ k, p k j * s k = pre p s b j := by rw [Fin.sum_univ_four, add_comm]; rfl
  by_cases h : ∀ k, p k j = 0 ∨ IsReal (s k)
  · left
    unfold preParts
    rw [e]
    have h1 : ∀ k, p k j * (s k - s k) = 0 := fun k => by
      rcases h k with hk | hk
      · rw [hk, zero_mul]
      · rw [sub_self_of_real hk, mul_zero]
    have h2 : ∀ k, p k j * ((s k - s k) - (s k - s k)) = 0 := fun k => by
      rcases h k with hk | hk
      · rw [hk, zero_mul]
      · rw [sub_self_of_real hk, sub_self_of_real (x := 0) ⟨0, rfl⟩, mul_zero]
    simp only [h1, h2, Finset.sum_const_zero, add_zero]
  · right
    obtain ⟨k, hk⟩ := not_forall.1 h
    obtain ⟨hp, hs⟩ := not_or.1 hk
    have hn : ¬ IsReal (pre p s b j) := by
      intro hr
      rw [← e, Fin.sum_univ_four] at hr
      obtain ⟨h012, h3⟩ := hr.of_add.2.of_add
      obtain ⟨h01, h2⟩ := h012.of_add
      obtain ⟨h0, h1⟩ := h01.of_add
      exact mul_not_real hp hs (match k with
        | 0 => h0
        | 1 => h1
        | 2 => h2
        | 3 => h3)
    refine ⟨fun hr => hn ?_, hn⟩
    rw [← e]
    exact hr.of_add.1.of_add.1

/-- The new residual is the same from either: where the sums differ, their row is multiplied by zero. -/
theorem resid_parts (p : Fin 4 → Fin 7168 → EReal) (s : Fin 4 → EReal) (b g x : Fin 7168 → EReal) :
    resid (preParts p s b) g x = resid (pre p s b) g x := by
  by_cases h : ∀ j, preParts p s b j = pre p s b j
  · rw [funext h]
  · obtain ⟨j, hj⟩ := not_forall.1 h
    obtain ⟨h1, h2⟩ := (preParts_or p s b j).resolve_left hj
    funext i
    unfold resid
    rw [inv_zero h1, inv_zero h2, mul_zero, mul_zero]

/-! ## Bounds -/

/-- Every element of a row times the row's reciprocal root mean square is a real between -85 and 85. -/
theorem mul_inv_bound (h : Fin 7168 → EReal) (j : Fin 7168) : ∃ z : ℝ, |z| ≤ 85 ∧ h j * inv h = z := by
  have h0 := sum_sq_nonneg h
  have hle : h j * h j ≤ ∑ j, h j * h j := Finset.single_le_sum (f := fun j => h j * h j) (fun i _ => sq_nonneg _) (Finset.mem_univ j)
  obtain ⟨e, he, hE⟩ := eps_pos
  unfold inv
  rw [hE]
  generalize ∑ j, h j * h j = S at h0 hle
  generalize h j = x at hle
  have htop : Ideal.rsqrt ((⊤ : EReal) * ((1 / 7168 : ℝ) : EReal) + (e : EReal)) = 0 := by
    rw [EReal.top_mul_coe_of_pos (by norm_num), EReal.top_add_coe, rsqrt_top]
  induction S with
  | bot => simp at h0
  | top => exact ⟨0, by norm_num, by rw [htop]; simp⟩
  | coe s =>
    induction x with
    | bot => simp at hle
    | top => simp at hle
    | coe x =>
      have hs : 0 ≤ s := by exact_mod_cast h0
      have hx : x * x ≤ s := by exact_mod_cast hle
      have hp : 0 < s * (1 / 7168) + e := by positivity
      refine ⟨x * (Real.sqrt (s * (1 / 7168) + e))⁻¹, ?_, ?_⟩
      · have hq := Real.sqrt_pos.2 hp
        rw [← div_eq_mul_inv, abs_div, abs_of_pos hq, div_le_iff₀ hq]
        apply abs_le_of_sq_le_sq _ (by positivity)
        rw [mul_pow, Real.sq_sqrt hp.le]
        nlinarith
      · rw [← EReal.coe_mul, ← EReal.coe_add]
        rw [rsqrt_pos hp, EReal.coe_mul]

/-- Where the gains are at most the largest float, the quotient is a nonnegative real below `2 ^ 126`. -/
theorem amax_real (h n : Fin 7168 → EReal) (hn : ∀ j, max (n j) (-n j) ≤ Ideal.ofBits .f32 0x7F7FFFFF#32) :
    ∃ a : ℝ, 0 ≤ a ∧ a < 2 ^ 126 ∧ amax (normed h n) = a := by
  have hb : ∀ j, ∃ y : ℝ, |y| ≤ 85 * (16777215 * 2 ^ 104) ∧ normed h n j = y := by
    intro j
    obtain ⟨z, hz, hZ⟩ := mul_inv_bound h j
    have h1 := hn j
    rw [fmax_eq, max_le_iff] at h1
    unfold normed
    rw [hZ]
    generalize n j = x at h1
    induction x with
    | bot => exact absurd (top_le_iff.1 h1.2) (EReal.coe_ne_top _)
    | top => exact absurd (top_le_iff.1 h1.1) (EReal.coe_ne_top _)
    | coe x =>
      refine ⟨z * x, ?_, by rw [EReal.coe_mul]⟩
      have h2 : x ≤ 16777215 * 2 ^ (104 : ℤ) := by exact_mod_cast h1.1
      have h3 : -x ≤ 16777215 * 2 ^ (104 : ℤ) := by exact_mod_cast h1.2
      have h4 : |x| ≤ 16777215 * 2 ^ 104 := by
        have e : (16777215 : ℝ) * 2 ^ (104 : ℤ) = 16777215 * 2 ^ 104 := by norm_num
        rw [e] at h2 h3
        exact abs_le'.2 ⟨h2, h3⟩
      rw [abs_mul]
      exact mul_le_mul hz h4 (abs_nonneg _) (by norm_num)
  have hmax : ∀ j, ((0 : ℝ) : EReal) ≤ max (normed h n j) (-normed h n j)
      ∧ max (normed h n j) (-normed h n j) ≤ ((85 * (16777215 * 2 ^ 104) : ℝ) : EReal) := by
    intro j
    obtain ⟨y, hy, hY⟩ := hb j
    rw [hY, ← EReal.coe_neg, ← EReal.coe_strictMono.monotone.map_max, ← abs_eq_max_neg]
    exact ⟨by exact_mod_cast abs_nonneg y, by exact_mod_cast hy⟩
  unfold amax
  have hl : ((0 : ℝ) : EReal) ≤ Finset.univ.fold max ⊥ fun j => max (normed h n j) (-normed h n j) :=
    (Finset.le_fold_max _).2 (.inr ⟨0, Finset.mem_univ _, (hmax 0).1⟩)
  have hu : (Finset.univ.fold max ⊥ fun j => max (normed h n j) (-normed h n j)) ≤ ((85 * (16777215 * 2 ^ 104) : ℝ) : EReal) :=
    (Finset.fold_max_le _).2 ⟨bot_le, fun j _ => (hmax j).2⟩
  generalize (Finset.univ.fold max ⊥ fun j => max (normed h n j) (-normed h n j)) = M at hl hu
  induction M with
  | bot => simp at hl
  | top => exact absurd (top_le_iff.1 hu) (EReal.coe_ne_top _)
  | coe x =>
    have h1 : 0 ≤ x := by exact_mod_cast hl
    have h2 : x ≤ 85 * (16777215 * 2 ^ 104) := by exact_mod_cast hu
    refine ⟨x * (9586981 * 2 ^ (-32 : ℤ)), by positivity, ?_, by rw [c448_eq, ← EReal.coe_mul]⟩
    have h3 : x * (9586981 * 2 ^ (-32 : ℤ)) ≤ 85 * (16777215 * 2 ^ 104) * (9586981 * 2 ^ (-32 : ℤ)) :=
      mul_le_mul_of_nonneg_right h2 (by positivity)
    refine lt_of_le_of_lt h3 ?_
    norm_num

/-- The largest magnitude before the row's factor, started from zero, times the factor and over the largest code, is
    the quotient. -/
theorem amax_factor (h n : Fin 7168 → EReal) (M : EReal)
    (hM : ∀ c, M ≤ c ↔ 0 ≤ c ∧ ∀ j, max (h j * n j) (-(h j * n j)) ≤ c) :
    M * inv h * c448 = amax (normed h n) := by
  unfold amax
  refine congrArg (· * c448) ?_
  obtain ⟨r, hr, hR⟩ := inv_real h
  have hM' : M = Finset.univ.fold max 0 fun j => max (h j * n j) (-(h j * n j)) := by
    apply eq_of_forall_ge_iff
    intro c
    rw [hM, Finset.fold_max_le]
    simp
  have hmul : ∀ x y : EReal, max x y * (r : EReal) = max (x * r) (y * r) := fun x y =>
    (show Monotone fun z : EReal => z * (r : EReal) from fun a b hab => mul_le_mul_of_nonneg_right hab (by exact_mod_cast hr)).map_max
  rw [hR, hM', ← Finset.fold_hom (m := fun z : EReal => z * (r : EReal)) hmul]
  apply eq_of_forall_ge_iff
  intro c
  have e : ∀ j, max (h j * n j) (-(h j * n j)) * (r : EReal) = max (normed h n j) (-normed h n j) := by
    intro j
    rw [hmul, EReal.neg_mul]
    unfold normed
    rw [hR, mul_right_comm]
  simp only [Finset.fold_max_le, Finset.mem_univ, true_implies, e, zero_mul, bot_le, true_and]
  refine ⟨fun h => h.2, fun h' => ⟨?_, h'⟩⟩
  refine le_trans ?_ (h' 0)
  generalize normed h n 0 = x
  rcases le_total 0 x with hx | hx
  · exact le_max_of_le_left hx
  · exact le_max_of_le_right (by simpa using hx)

/-! ## The exponent -/

/-- The exponent field of a quotient: the powers of two it reaches are those up to a field `b`, and its scale's
    exponent is `b - 126`, or zero where `b` is zero. -/
theorem field_exists (a : ℝ) (h0 : 0 ≤ a) (h1 : a < 2 ^ 126) : ∃ b : Nat, b ≤ 252
    ∧ (∀ k : Nat, k ≤ 255 → (Ideal.ofBits .f32 (BitVec.ofNat 32 (k * 2 ^ 23)) ≤ (a : EReal) ↔ k ≤ b))
    ∧ expo a = if b = 0 then 0 else (((b : ℤ) - 126 : ℤ) : ℝ) := by
  have hz : Ideal.ofBits .f32 (BitVec.ofNat 32 (0 * 2 ^ 23)) = 0 := by
    simp [Ideal.ofBits, Ideal.ieee, -EReal.coe_mul]
  have ht : Ideal.ofBits .f32 (BitVec.ofNat 32 (255 * 2 ^ 23)) = ⊤ := by
    simp [Ideal.ofBits, Ideal.ieee, -EReal.coe_mul]
  by_cases hs : a < 2 ^ (-126 : ℤ)
  · refine ⟨0, by omega, fun k hk => ?_, ?_⟩
    · rcases Nat.eq_zero_or_pos k with rfl | hk0
      · rw [hz]; simp; exact_mod_cast h0
      · refine ⟨fun hle => ?_, fun hle => by omega⟩
        exfalso
        rcases Nat.lt_or_ge k 255 with hk' | hk'
        · rw [pow_bits hk0 (by omega), EReal.coe_le_coe_iff] at hle
          have : (2 : ℝ) ^ (-126 : ℤ) ≤ 2 ^ ((k : ℤ) - 127) := zpow_le_zpow_right₀ (by norm_num) (by omega)
          linarith
        · obtain rfl : k = 255 := by omega
          rw [ht] at hle; exact EReal.coe_ne_top _ (top_le_iff.1 hle)
    · rw [if_pos rfl]; unfold expo
      rw [tiny_eq, if_pos (by exact_mod_cast hs)]; rfl
  · have hs' : (2 : ℝ) ^ (-126 : ℤ) ≤ a := not_lt.1 hs
    have hpos : 0 < a := lt_of_lt_of_le (by positivity) hs'
    obtain ⟨z, hz1, hz2⟩ := exists_mem_Ico_zpow (x := a) (y := 2) hpos (by norm_num)
    have l1 : -126 ≤ z := by
      by_contra hc
      have : (2 : ℝ) ^ (z + 1) ≤ 2 ^ (-126 : ℤ) := zpow_le_zpow_right₀ (by norm_num) (by omega)
      linarith
    have l2 : z < 126 := by
      by_contra hc
      have : (2 : ℝ) ^ (126 : ℤ) ≤ 2 ^ z := zpow_le_zpow_right₀ (by norm_num) (by omega)
      have e : (2 : ℝ) ^ (126 : ℤ) = 2 ^ 126 := by norm_num
      linarith
    refine ⟨(z + 127).toNat, by omega, fun k hk => ?_, ?_⟩
    · rcases Nat.eq_zero_or_pos k with rfl | hk0
      · rw [hz]; simp; exact_mod_cast h0
      rcases Nat.lt_or_ge k 255 with hk' | hk'
      · rw [pow_bits hk0 (by omega), EReal.coe_le_coe_iff]
        constructor
        · intro hle
          by_contra hc
          have : (2 : ℝ) ^ (z + 1) ≤ 2 ^ ((k : ℤ) - 127) := zpow_le_zpow_right₀ (by norm_num) (by omega)
          linarith
        · intro hle
          have : (2 : ℝ) ^ ((k : ℤ) - 127) ≤ 2 ^ z := zpow_le_zpow_right₀ (by norm_num) (by omega)
          linarith
      · obtain rfl : k = 255 := by omega
        rw [ht]
        refine ⟨fun hle => absurd (top_le_iff.1 hle) (EReal.coe_ne_top _), fun hle => by omega⟩
    · rw [if_neg (by omega)]; unfold expo
      have hl2 : (0 : ℝ) < Real.log 2 := Real.log_pos (by norm_num)
      rw [tiny_eq, if_neg (by exact_mod_cast hs), two_eq]
      rw [log_pos hpos, log_pos (by norm_num), Ideal.div_coe hl2.ne', ← EReal.coe_mul]
      have hf : ⌊Real.log a * (1 / Real.log 2)⌋ = z := by
        rw [Int.floor_eq_iff]
        have e : ∀ w : ℤ, Real.log ((2 : ℝ) ^ w) = w * Real.log 2 := fun w => Real.log_zpow 2 w
        have b1 := Real.log_le_log (by positivity) hz1
        have b2 := Real.log_lt_log hpos hz2
        rw [e] at b1 b2
        rw [mul_one_div, le_div_iff₀ hl2, div_lt_iff₀ hl2]
        push_cast at b2
        exact ⟨b1, b2⟩
      rw [floor_coe, hf]
      have : ((z + 127).toNat : ℤ) - 126 = z + 1 := by omega
      rw [this]; push_cast; rfl

/-- Two to an integer. -/
theorem exp2_int (z : ℤ) : Ideal.exp2 (((z : ℝ)) : EReal) = (((2 : ℝ) ^ z : ℝ) : EReal) :=
  congrArg (fun x : ℝ => (x : EReal)) (Real.rpow_intCast 2 z)

end Cert.Spec
-- ==== Proof.Point.lean ====
/- The idealized kernel's values read at an index: every step of a half block in terms of the mathematics of one row. -/
module

public import proofs.«01_k».proof.Proof.Body
public import proofs.«01_k».proof.Proof.Spec

@[expose] public section

set_option synthInstance.maxSize 4096
set_option maxRecDepth 16384

noncomputable section

namespace Cert.KernelIdeal.Sandwich

open Idealize.ShloMosaic Idealize.SL.Sem Cert.KernelIdeal.Gen
open Idealize.ShloMosaic.View (ld)
open Cert.Spec

/-! ## Single steps -/

theorem select_eq_ite {α : Type} (p : BitVec 1) (a b : α) : Scalar.select p a b = if p = 1 then a else b := rfl

theorem cmp_lanes : ∀ (l : Fin 128) (r : Fin 64),
    IntOp.cmpi CmpIPredicate.eq (IntOp.andi (BitVec.ofNat 32 l.val) 63#32) (BitVec.ofNat 32 r.val) = if l.val % 64 = r.val then 1#1 else 0#1 := by
  decide +kernel

theorem cmp_low : ∀ (l : Fin 128), IntOp.cmpi CmpIPredicate.slt (BitVec.ofNat 32 l.val) 64#32 = if l.val < 64 then 1#1 else 0#1 := by
  decide +kernel

theorem cmp_small : ∀ (l r : Fin 128),
    IntOp.cmpi CmpIPredicate.eq (BitVec.ofNat 32 l.val) (BitVec.ofNat 32 r.val) = if l = r then 1#1 else 0#1 := by
  decide +kernel

/-- The scale matrix holds shard `k`'s scale of row `r`'s token at column `64·k + r`, zero elsewhere. -/
theorem scaleMat_at (sc : FVec Ideal S4x128 .f32) {h : Nat} (hh : h < 2) (r : Fin 64) (l : Fin 256) :
    scaleMat h sc (ix2 r l) = if l.val % 64 = r.val then sc (ix2 ⟨l.val / 64, by omega⟩ ⟨64 * h + r.val, by omega⟩) else 0 := by
  have aux : ∀ (a a' : Fin 4) (b b' : Fin 128), a = a' → b = b' → sc (ix2 a b) = sc (ix2 a' b') := by rintro _ _ _ _ rfl rfl; rfl
  obtain rfl | rfl : h = 0 ∨ h = 1 := by omega
  all_goals
    pointwise [scaleMat, diagLanes, onDiag, lowLane, pairLanes, spread]
    by_cases hl : l.val < 128
    · rw [dif_pos hl]
      have e1 := cmp_lanes ⟨l.val, hl⟩ r
      have e2 := cmp_low ⟨l.val, hl⟩
      simp only at e1 e2
      simp only [select_eq_ite, e1, e2]
      by_cases hm : l.val % 64 = r.val
      · by_cases hlow : l.val < 64
        · simp only [if_pos hm, if_pos hlow, if_true]
          exact aux _ _ _ _ (Fin.ext (by first | exact (show 0 = l.val / 64 by omega) | exact (show 1 = l.val / 64 by omega) | exact (show 2 = l.val / 64 by omega) | exact (show 3 = l.val / 64 by omega))) (Fin.ext (by simp only; omega))
        · simp only [if_pos hm, if_neg hlow, if_true]
          exact aux _ _ _ _ (Fin.ext (by first | exact (show 0 = l.val / 64 by omega) | exact (show 1 = l.val / 64 by omega) | exact (show 2 = l.val / 64 by omega) | exact (show 3 = l.val / 64 by omega))) (Fin.ext (by simp only; omega))
      · simp [hm]
    · rw [dif_neg hl]
      have e1 := cmp_lanes ⟨l.val - 128, by omega⟩ r
      have e2 := cmp_low ⟨l.val - 128, by omega⟩
      simp only at e1 e2
      have e3 : (l.val - 128) % 64 = l.val % 64 := by omega
      rw [e3] at e1
      simp only [select_eq_ite, e1, e2]
      by_cases hm : l.val % 64 = r.val
      · by_cases hlow : l.val - 128 < 64
        · simp only [if_pos hm, if_pos hlow, if_true]
          exact aux _ _ _ _ (Fin.ext (by first | exact (show 0 = l.val / 64 by omega) | exact (show 1 = l.val / 64 by omega) | exact (show 2 = l.val / 64 by omega) | exact (show 3 = l.val / 64 by omega))) (Fin.ext (by simp only; omega))
        · simp only [if_pos hm, if_neg hlow, if_true]
          exact aux _ _ _ _ (Fin.ext (by first | exact (show 0 = l.val / 64 by omega) | exact (show 1 = l.val / 64 by omega) | exact (show 2 = l.val / 64 by omega) | exact (show 3 = l.val / 64 by omega))) (Fin.ext (by simp only; omega))
      · simp [hm]

/-- What the leading part leaves behind is the difference of a matrix and itself. -/
theorem restHi_at (m : FVec Ideal S64x256 .f32) (j : S64x256.Idx) : restHi m j = (m j : EReal) - m j := by
  idx_vars j
  pointwise [restHi, partHi]

theorem dotPart_at (p : FVec Ideal S64x256 .bf16) (codes : Vec Ideal S4x1x64x256 .fp8e4m3) (r : Fin 64) (l : Fin 256) :
    dotPart p codes (ix2 r l) = ∑ x : Fin 256, p (ix2 r x) * codes (ix4 ⟨x.val / 64, by omega⟩ 0 ⟨x.val % 64, by omega⟩ l) := by
  pointwise [dotPart]

/-- The product of a matrix holding four values on the diagonals of its four squares and a chunk of codes is the sum over shards. -/
theorem dotDiag_at (p : FVec Ideal S64x256 .bf16) (f : Fin 4 → EReal) (codes : Vec Ideal S4x1x64x256 .fp8e4m3) (r : Fin 64) (l : Fin 256)
    (hp : ∀ x : Fin 256, p (ix2 r x) = if x.val % 64 = r.val then f ⟨x.val / 64, by omega⟩ else 0) :
    dotPart p codes (ix2 r l) = ∑ k : Fin 4, codes (ix4 k 0 r l) * f k := by
  have aux : ∀ (a a' : Fin 4) (b b' : Fin 64), a = a' → b = b' → codes (ix4 a 0 b l) = codes (ix4 a' 0 b' l) := by rintro _ _ _ _ rfl rfl; rfl
  rw [dotPart_at, Fin.sum_univ_tiles 4 64 (by rfl)]
  refine Finset.sum_congr rfl fun k _ => ?_
  rw [Finset.sum_eq_single r]
  · rw [hp, if_pos (by show (k.val * 64 + r.val) % 64 = r.val; omega), mul_comm]
    congr 1
    · exact aux _ _ _ _ (Fin.ext (by show (k.val * 64 + r.val) / 64 = k.val; omega)) (Fin.ext (by show (k.val * 64 + r.val) % 64 = r.val; omega))
    · exact congrArg f (Fin.ext (by show (k.val * 64 + r.val) / 64 = k.val; omega))
  · intro q _ hq
    rw [hp, if_neg, zero_mul]
    show ¬ (k.val * 64 + q.val) % 64 = r.val
    intro hc; exact hq (Fin.ext (by omega))
  · exact fun h => absurd (Finset.mem_univ _) h

/-- A chunk of the first pass: the bias and the sums over shards with the three parts of the scales. -/
theorem tChunk_at (sc : FVec Ideal S4x128 .f32) {h : Nat} (hh : h < 2) (codes : Vec Ideal S4x1x64x256 .fp8e4m3)
    (bias : Vec Ideal S1x256 .f32) (r : Fin 64) (l : Fin 256) (s : Fin 4 → EReal) (hs : ∀ k, sc (ix2 k ⟨64 * h + r.val, by omega⟩) = s k) :
    tChunk (scaleMat h sc) codes bias (ix2 r l) = (((bias (ix2 0 l) : EReal) + ∑ k : Fin 4, codes (ix4 k 0 r l) * s k)
      + ∑ k : Fin 4, codes (ix4 k 0 r l) * (s k - s k)) + ∑ k : Fin 4, codes (ix4 k 0 r l) * ((s k - s k) - (s k - s k)) := by
  have h0 : ∀ x : Fin 256, scaleMat h sc (ix2 r x) = if x.val % 64 = r.val then s ⟨x.val / 64, by omega⟩ else 0 := fun x => by
    rw [scaleMat_at sc hh, hs]
  have h1 : ∀ x : Fin 256, restHi (scaleMat h sc) (ix2 r x)
      = if x.val % 64 = r.val then s ⟨x.val / 64, by omega⟩ - s ⟨x.val / 64, by omega⟩ else 0 := fun x => by
    rw [restHi_at, h0]
    split
    · rfl
    · exact sub_self_of_real ⟨0, rfl⟩
  have h2 : ∀ x : Fin 256, restHi (restHi (scaleMat h sc)) (ix2 r x)
      = if x.val % 64 = r.val then (s ⟨x.val / 64, by omega⟩ - s ⟨x.val / 64, by omega⟩) - (s ⟨x.val / 64, by omega⟩ - s ⟨x.val / 64, by omega⟩) else 0 := fun x => by
    rw [restHi_at, h1]
    split
    · rfl
    · exact sub_self_of_real ⟨0, rfl⟩
  have h5 : spreadRow bias (ix2 r l) = bias (ix2 0 l) := by pointwise [spreadRow]
  show ((spreadRow bias (ix2 r l) + dotPart (partHi (scaleMat h sc)) codes (ix2 r l)) + dotPart (partMid (scaleMat h sc)) codes (ix2 r l))
    + dotPart (partLo (scaleMat h sc)) codes (ix2 r l) = _
  rw [dotDiag_at (partHi (scaleMat h sc)) s codes r l h0, dotDiag_at (partMid (scaleMat h sc)) (fun k => s k - s k) codes r l h1,
    dotDiag_at (partLo (scaleMat h sc)) (fun k => (s k - s k) - (s k - s k)) codes r l h2, h5]

/-- The batch's scales. -/
theorem batchScales_at (i : grid0.Coords) (b : Fin 3) (hb : (i 0).val = b.val) (v : Vec Ideal S4x3x128 .f32) (k : Fin 4) (l : Fin 128) :
    batchScales i v (ix2 k l) = v (ix3 k b l) := by
  pointwise [batchScales]
  have e : ∀ x y : Fin 3, IntOp.cmpi CmpIPredicate.eq (BitVec.ofNat 32 x.val) (BitVec.ofNat 32 y.val) = if x = y then 1#1 else 0#1 := by decide +kernel
  simp only [select_eq_ite, hb, e]
  rw [Finset.sum_eq_single b]
  · simp
  · intro b' _ hb'; simp [hb']
  · exact fun h => absurd (Finset.mem_univ _) h

/-! ## Rows from chunks -/

/-- Row `r` of chunks agrees with a row of 7168. -/
def RowIs (w : (c : Nat) → c < 28 → FVec Ideal S64x256 .f32) (r : Fin 64) (f : Fin 7168 → EReal) : Prop :=
  ∀ (c : Nat) (hc : c < 28) (l : Fin 256), w c hc (ix2 r l) = f ⟨256 * c + l.val, by omega⟩

theorem sums_at (w : (c : Nat) → c < 28 → FVec Ideal S64x256 .f32) (r : Fin 64) (l : Fin 128) : (n : Nat) → (hn : n ≤ 28) →
    sums w n hn (ix2 r l) = ∑ c : Fin n, (w c.val (by omega) (ix2 r ⟨l.val, by omega⟩) * w c.val (by omega) (ix2 r ⟨l.val, by omega⟩)
      + w c.val (by omega) (ix2 r ⟨128 + l.val, by omega⟩) * w c.val (by omega) (ix2 r ⟨128 + l.val, by omega⟩))
  | 0, _ => by
    rw [Fin.sum_univ_zero]
    show zeros (F := Ideal) (ix2 r l) = 0
    pointwise [zeros]
  | n + 1, hn => by
    rw [Fin.sum_univ_castSucc]
    have ih := sums_at w r l n (Nat.le_of_succ_le hn)
    simp only [Fin.val_castSucc, Fin.val_last]
    rw [← add_assoc, ← ih]
    show ssq (sums w n _) (w n _) (ix2 r l) = _
    pointwise [ssq, left, right]

/-- The sums of squares over the lanes are the row's sum of squares. -/
theorem sums_row {w : (c : Nat) → c < 28 → FVec Ideal S64x256 .f32} {r : Fin 64} {f : Fin 7168 → EReal} (hw : RowIs w r f) :
    ∑ l : Fin 128, sums w 28 (Nat.le_refl _) (ix2 r l) = ∑ j, f j * f j := by
  simp only [sums_at, hw _ _ _]
  rw [Finset.sum_comm, Fin.sum_univ_tiles (N := 7168) 28 256 (by rfl)]
  refine Finset.sum_congr rfl fun c _ => ?_
  rw [Fin.sum_univ_tiles (N := 256) 2 128 (by rfl), Fin.sum_univ_two, Finset.sum_add_distrib]
  have aux : ∀ a b : Fin 7168, a = b → f a * f a = f b * f b := by rintro _ _ rfl; rfl
  congr 1
  · exact Finset.sum_congr rfl fun l _ => aux _ _ (Fin.ext (by show 256 * c.val + l.val = c.val * 256 + (0 * 128 + l.val); omega))
  · exact Finset.sum_congr rfl fun l _ => aux _ _ (Fin.ext (by show 256 * c.val + (128 + l.val) = c.val * 256 + (1 * 128 + l.val); omega))

/-- The reciprocal root mean square of a row. -/
theorem invRms_row {w : (c : Nat) → c < 28 → FVec Ideal S64x256 .f32} {r : Fin 64} {f : Fin 7168 → EReal} (hw : RowIs w r f) :
    invRms (sums w 28 (Nat.le_refl _)) (ix2 r 0) = inv f := by
  have h : Named.named (F := Ideal) κ "inv_d" (φ := .f32) 0x39124925#32 = ((1 / 7168 : ℝ) : EReal) := IdealRules.named_const.ideal_named_scalar _ _ _ _ rfl
  have e : invRms (sums w 28 (Nat.le_refl _)) (ix2 r 0)
      = Ideal.rsqrt ((∑ x, sums w 28 (Nat.le_refl _) (ix2 r x)) * Named.named (F := Ideal) κ "inv_d" (φ := .f32) 0x39124925#32 + Ideal.ofBits .f32 0x358637BD#32) := by
    pointwise [invRms]
  rw [e, sums_row hw, h]
  rfl

theorem maxes_at (w : (c : Nat) → c < 28 → FVec Ideal S64x256 .f32) (r : Fin 64) (l : Fin 128) (z : EReal) : (n : Nat) → (hn : n ≤ 28) →
    (maxes w n hn (ix2 r l) ≤ z ↔ 0 ≤ z ∧ ∀ (c : Nat) (hc : c < n),
      max (w c (by omega) (ix2 r ⟨l.val, by omega⟩)) (-w c (by omega) (ix2 r ⟨l.val, by omega⟩)) ≤ z
      ∧ max (w c (by omega) (ix2 r ⟨128 + l.val, by omega⟩)) (-w c (by omega) (ix2 r ⟨128 + l.val, by omega⟩)) ≤ z)
  | 0, _ => by
    have : maxes w 0 (by omega) (ix2 r l) = 0 := by
      show zeros (F := Ideal) (ix2 r l) = 0
      pointwise [zeros]
    rw [this]; simp
  | n + 1, hn => by
    have ih := maxes_at w r l z n (Nat.le_of_succ_le hn)
    have e : maxes w (n + 1) hn (ix2 r l) = max (maxes w n (Nat.le_of_succ_le hn) (ix2 r l))
        (max (max (w n hn (ix2 r ⟨l.val, by omega⟩)) (-w n hn (ix2 r ⟨l.val, by omega⟩)))
          (max (w n hn (ix2 r ⟨128 + l.val, by omega⟩)) (-w n hn (ix2 r ⟨128 + l.val, by omega⟩)))) := by
      show amaxStep (maxes w n _) (w n _) (ix2 r l) = _
      pointwise [amaxStep, left, right]
      rfl
    rw [e, max_le_iff, ih, max_le_iff (c := z) (a := max (w n hn (ix2 r ⟨l.val, by omega⟩)) _)]
    constructor
    · rintro ⟨⟨h0, h⟩, h1⟩
      refine ⟨h0, fun c hc => ?_⟩
      rcases Nat.lt_succ_iff_lt_or_eq.1 hc with h' | rfl
      · exact h c h'
      · exact h1
    · rintro ⟨h0, h⟩
      exact ⟨⟨h0, fun c hc => h c (by omega)⟩, h n (by omega)⟩

/-- The largest magnitude of a row of the residual times the gain, as the quotient of the normed residual. -/
theorem rowMax_row {w : (c : Nat) → c < 28 → FVec Ideal S64x256 .f32} {r : Fin 64} {h n : Fin 7168 → EReal}
    (hw : RowIs w r fun j => h j * n j) (r2 : FVec Ideal S64x1 .f32) (hr : r2 (ix2 r 0) = inv h) :
    rowMax (maxes w 28 (Nat.le_refl _)) r2 (ix2 r 0) = amax (normed h n) := by
  have e : rowMax (maxes w 28 (Nat.le_refl _)) r2 (ix2 r 0)
      = Finset.fold max (Ideal.ofBits .f32 0xFF800000#32) (fun x => maxes w 28 (Nat.le_refl _) (ix2 r x)) Finset.univ * r2 (ix2 r 0)
        * Ideal.ofBits .f32 0x3B124925#32 := by
    pointwise [rowMax]
  rw [e, hr, ninf_eq]
  refine amax_factor h n _ fun z => ?_
  rw [Finset.fold_max_le]
  simp only [maxes_at, hw _ _ _, bot_le, true_and, Finset.mem_univ, true_implies]
  constructor
  · intro H
    refine ⟨(H 0).1, fun j => ?_⟩
    have hj := j.isLt
    rcases Nat.lt_or_ge (j.val % 256) 128 with hlt | hge
    · have := ((H ⟨j.val % 256, hlt⟩).2 (j.val / 256) (by omega)).1
      have ej : (⟨256 * (j.val / 256) + j.val % 256, by omega⟩ : Fin 7168) = j := Fin.ext (by show 256 * (j.val / 256) + j.val % 256 = j.val; omega)
      simpa only [ej] using this
    · have := ((H ⟨j.val % 256 - 128, by omega⟩).2 (j.val / 256) (by omega)).2
      have ej : (⟨256 * (j.val / 256) + (128 + (j.val % 256 - 128)), by omega⟩ : Fin 7168) = j :=
        Fin.ext (by show 256 * (j.val / 256) + (128 + (j.val % 256 - 128)) = j.val; omega)
      simpa only [ej] using this
  · rintro ⟨h0, H⟩ l
    exact ⟨h0, fun c hc => ⟨H _, H _⟩⟩

/-! ## The quantiser -/

theorem maxsi_toInt (x y : BitVec 32) : (IntOp.maxsi x y).toInt = max x.toInt y.toInt := by
  unfold IntOp.maxsi
  rw [BitVec.slt_eq_decide]
  by_cases h : y.toInt < x.toInt
  · rw [if_pos (by simpa using h), max_eq_left h.le]
  · rw [if_neg (by simpa using h), max_eq_right (not_lt.1 h)]

theorem toInt_field {k : Nat} (h : k < 256) : (BitVec.ofNat 32 k).toInt = k :=
  (by decide +kernel : ∀ k : Fin 256, (BitVec.ofNat 32 k.val).toInt = k.val) ⟨k, h⟩

/-- The largest field among those up to `b`. -/
theorem fields_max (b : Nat) (hb : b ≤ 252) (f : Fin 256 → BitVec 32) (hf : ∀ x : Fin 256, f x = if x.val ≤ b then BitVec.ofNat 32 x.val else 0#32) :
    Finset.fold IntOp.maxsi 2147483648#32 f Finset.univ = BitVec.ofNat 32 b := by
  apply BitVec.eq_of_toInt_eq
  rw [← Finset.fold_hom (m := BitVec.toInt) maxsi_toInt, toInt_field (k := b) (by omega)]
  apply eq_of_forall_ge_iff
  intro z
  rw [Finset.fold_max_le]
  have e : ∀ x : Fin 256, (f x).toInt = if x.val ≤ b then (x.val : ℤ) else 0 := by
    intro x; rw [hf]; split
    · exact toInt_field x.isLt
    · rfl
  simp only [Finset.mem_univ, true_implies, e]
  constructor
  · rintro ⟨_, h⟩
    have := h ⟨b, by omega⟩
    simpa using this
  · intro h
    refine ⟨le_trans (by decide) (le_trans (Int.natCast_nonneg b) h), fun x => ?_⟩
    split
    · omega
    · omega

theorem shl_field : ∀ k : Fin 256, IntOp.shli ArithUnit.vector (BitVec.ofNat 32 k.val) 23#32 = BitVec.ofNat 32 (k.val * 2 ^ 23) := by
  decide +kernel

/-- The field of a row whose quotient is the real `a`: what `field_exists` says of it. -/
theorem biased_row (m : FVec Ideal S64x1 .f32) (r : Fin 64) (b : Nat) (hb : b ≤ 252)
    (h : ∀ k : Nat, k ≤ 255 → (Ideal.ofBits .f32 (BitVec.ofNat 32 (k * 2 ^ 23)) ≤ m (ix2 r 0) ↔ k ≤ b)) :
    biased m (ix2 r 0) = BitVec.ofNat 32 b := by
  have e : ∀ x : Fin 256, spreadCol m (ix2 r x) = m (ix2 r 0) := fun x => by pointwise [spreadCol]
  pointwise [biased, fields]
  refine fields_max b hb _ fun x => ?_
  rw [e, shl_field x]
  exact if_congr (h x.val (by omega)) rfl rfl

theorem bits_tab : ∀ b : Fin 253,
    (let e := Scalar.select (IntOp.ori (IntOp.cmpi CmpIPredicate.eq (BitVec.ofNat 32 b.val) 0#32) (IntOp.cmpi CmpIPredicate.eq (BitVec.ofNat 32 b.val) 255#32))
        (0#32) (IntOp.subi (BitVec.ofNat 32 b.val) 126#32)
     IntOp.shli ArithUnit.vector (IntOp.addi (127#32) e) 23#32 = BitVec.ofNat 32 ((if b.val = 0 then 127 else b.val + 1) * 2 ^ 23)
     ∧ IntOp.shli ArithUnit.vector (IntOp.subi (127#32) e) 23#32 = BitVec.ofNat 32 ((if b.val = 0 then 127 else 253 - b.val) * 2 ^ 23)) := by
  decide +kernel

/-- The scale and its reciprocal of a row whose quotient is a real below `2 ^ 126`: two to the exponent, and to minus it. -/
theorem scale_row (m : FVec Ideal S64x1 .f32) (r : Fin 64) (h : ∃ a : ℝ, 0 ≤ a ∧ a < 2 ^ 126 ∧ m (ix2 r 0) = a) :
    scaleOf (F := Ideal) (Sandwich.expo (biased m)) (ix2 r 0) = Ideal.exp2 (Spec.expo (m (ix2 r 0)))
    ∧ invOf (F := Ideal) (Sandwich.expo (biased m)) (ix2 r 0) = Ideal.exp2 (0 - Spec.expo (m (ix2 r 0))) := by
  obtain ⟨a, h0, h1, hA⟩ := h
  obtain ⟨b, hb, hk, he⟩ := field_exists a h0 h1
  have hB : biased m (ix2 r 0) = BitVec.ofNat 32 b := biased_row m r b hb (by rw [hA]; exact hk)
  have hz : ∀ z : ℤ, (0 : EReal) - ((z : ℝ) : EReal) = (((-z : ℤ) : ℝ) : EReal) := fun z => by
    rw [zero_sub, ← EReal.coe_neg]; push_cast; rfl
  have t := bits_tab ⟨b, by omega⟩
  have e : Spec.expo (m (ix2 r 0)) = (((if b = 0 then 0 else (b : ℤ) - 126 : ℤ) : ℝ) : EReal) := by
    rw [hA, he]; split <;> simp
  rw [e, hz, exp2_int, exp2_int]
  constructor
  · have s : scaleOf (F := Ideal) (Sandwich.expo (biased m)) (ix2 r 0) = Ideal.ofBits .f32 _ := congrArg (Ideal.ofBits .f32) (Eq.trans (by
      show IntOp.shli ArithUnit.vector (IntOp.addi (127#32) (Scalar.select (IntOp.ori (IntOp.cmpi CmpIPredicate.eq (biased m (ix2 r 0)) 0#32)
        (IntOp.cmpi CmpIPredicate.eq (biased m (ix2 r 0)) 255#32)) (0#32) (IntOp.subi (biased m (ix2 r 0)) 126#32))) 23#32 = _
      rw [hB]) t.1)
    rw [s]
    generalize hk' : (if b = 0 then 127 else b + 1) = k
    rw [pow_bits (k := k) (by split at hk' <;> omega) (by split at hk' <;> omega)]
    have : (k : ℤ) - 127 = if b = 0 then 0 else (b : ℤ) - 126 := by split at hk' <;> split <;> omega
    rw [this]
  · have s : invOf (F := Ideal) (Sandwich.expo (biased m)) (ix2 r 0) = Ideal.ofBits .f32 _ := congrArg (Ideal.ofBits .f32) (Eq.trans (by
      show IntOp.shli ArithUnit.vector (IntOp.subi (127#32) (Scalar.select (IntOp.ori (IntOp.cmpi CmpIPredicate.eq (biased m (ix2 r 0)) 0#32)
        (IntOp.cmpi CmpIPredicate.eq (biased m (ix2 r 0)) 255#32)) (0#32) (IntOp.subi (biased m (ix2 r 0)) 126#32))) 23#32 = _
      rw [hB]) t.2)
    rw [s]
    generalize hk' : (if b = 0 then 127 else 253 - b) = k
    rw [pow_bits (k := k) (by split at hk' <;> omega) (by split at hk' <;> omega)]
    have : (k : ℤ) - 127 = -(if b = 0 then 0 else (b : ℤ) - 126) := by split at hk' <;> split <;> omega
    rw [this]

/-- The lanes of a block's scales: the first half's rows, then the second's. -/
theorem laneScales_at (s0 s1 : FVec Ideal S64x1 .f32) (l : Fin 128) :
    laneScales s0 s1 (ix1 l) = if h : l.val < 64 then s0 (ix2 ⟨l.val, h⟩ 0) else s1 (ix2 ⟨l.val - 64, by omega⟩ 0) := by
  pointwise [laneScales]
  have e1 : ∀ x : Fin 64, IntOp.cmpi CmpIPredicate.eq (BitVec.ofNat 32 x.val) (BitVec.ofNat 32 l.val) = if x.val = l.val then 1#1 else 0#1 := fun x => by
    rw [cmp_small ⟨x.val, by omega⟩ l]; exact if_congr Fin.ext_iff rfl rfl
  have e2 : ∀ x : Fin 64, IntOp.cmpi CmpIPredicate.eq (BitVec.ofNat 32 (64 + x.val)) (BitVec.ofNat 32 l.val) = if 64 + x.val = l.val then 1#1 else 0#1 :=
    fun x => by rw [cmp_small ⟨64 + x.val, by omega⟩ l]; exact if_congr Fin.ext_iff rfl rfl
  simp only [select_eq_ite, e1, e2]
  by_cases h : l.val < 64
  · rw [dif_pos h, Finset.sum_eq_single ⟨l.val, h⟩, Finset.sum_eq_zero, add_zero]
    · simp
    · intro x _; rw [if_neg (by omega : ¬ 64 + x.val = l.val)]; simp
    · intro x _ hx
      rw [if_neg (fun hc => hx (Fin.ext hc) : ¬ x.val = l.val)]; simp
    · exact fun h => absurd (Finset.mem_univ _) h
  · rw [dif_neg h, Finset.sum_eq_zero, zero_add, Finset.sum_eq_single ⟨l.val - 64, by omega⟩]
    · simp only [show 64 + (l.val - 64) = l.val by omega]; simp
    · intro x _ hx
      rw [if_neg (fun hc => hx (Fin.ext (by simp only; omega)) : ¬ 64 + x.val = l.val)]; simp
    · exact fun h => absurd (Finset.mem_univ _) h
    · intro x _; rw [if_neg (by omega : ¬ x.val = l.val)]; simp

end Cert.KernelIdeal.Sandwich
-- ==== Proof.Half.lean ====
/- A half block of the idealized kernel, row by row: its residual, codes and scale are those of the row. -/
module

public import proofs.«01_k».proof.Proof.Point

@[expose] public section

set_option synthInstance.maxSize 4096
set_option maxRecDepth 16384

noncomputable section

namespace Cert.KernelIdeal.Sandwich

open Idealize.ShloMosaic Idealize.SL.Sem Cert.KernelIdeal.Gen
open Idealize.ShloMosaic.View (ld)
open Cert.Spec

/-! ## Loads of chunks -/

theorem ldA_at (A : Vec Ideal S4x1x128x7168 .fp8e4m3) {h c : Nat} (hh : h < 2) (hc : c < 28) (k : Fin 4) (r : Fin 64) (l : Fin 256) :
    ld A (rC hh hc) (ix4 k 0 r l) = A (ix4 k 0 ⟨64 * h + r.val, by omega⟩ ⟨256 * c + l.val, by omega⟩) :=
  congrArg A (funext fun a => Fin.ext (match a with
    | 0 => (by show 0 + 1 * k.val = k.val; omega)
    | 1 => rfl
    | 2 => (by show 64 * h + 1 * r.val = 64 * h + r.val; omega)
    | 3 => (by show 256 * c + 1 * l.val = 256 * c + l.val; omega)))

theorem ldV_at (B : Vec Ideal S1x7168 .f32) {c : Nat} (hc : c < 28) (l : Fin 256) :
    ld B (rV hc) (ix2 0 l) = B (ix2 0 ⟨256 * c + l.val, by omega⟩) :=
  congrArg B (funext fun a => Fin.ext (match a with
    | 0 => rfl
    | 1 => (by show 256 * c + 1 * l.val = 256 * c + l.val; omega)))

theorem ldB_at (X : Vec Ideal S1x128x7168 .bf16) {h c : Nat} (hh : h < 2) (hc : c < 28) (r : Fin 64) (l : Fin 256) :
    ld X (rB hh hc) (ix3 0 r l) = X (ix3 0 ⟨64 * h + r.val, by omega⟩ ⟨256 * c + l.val, by omega⟩) :=
  congrArg X (funext fun a => Fin.ext (match a with
    | 0 => rfl
    | 1 => (by show 64 * h + 1 * r.val = 64 * h + r.val; omega)
    | 2 => (by show 256 * c + 1 * l.val = 256 * c + l.val; omega)))

theorem payS_eq {c : Nat} (hc : c < 28) (t : FVec Ideal S64x256 .f32) (r : Fin 64) (l : Fin 256) : payS hc t (ix2 r l) = t (ix2 r l) := by
  show shapeCast S64x256 t shapeCasts_S64x256_S64x256 (ix2 r l) = _
  pointwise

theorem spreadCol_at (v : FVec Ideal S64x1 .f32) (r : Fin 64) (l : Fin 256) : spreadCol v (ix2 r l) = v (ix2 r 0) := by pointwise [spreadCol]

theorem spreadRow_at (v : Vec Ideal S1x256 .f32) (r : Fin 64) (l : Fin 256) : spreadRow v (ix2 r l) = v (ix2 0 l) := by pointwise [spreadRow]

/-! ## A row of a half -/

section
variable (sc : FVec Ideal S4x128 .f32) (A : Vec Ideal S4x1x128x7168 .fp8e4m3) (B G N : Vec Ideal S1x7168 .f32) (X : Vec Ideal S1x128x7168 .bf16)

/-- Token `q` of the block: the sum over shards and the bias, -/
def vRow (q : Fin 128) (j : Fin 7168) : EReal := pre (fun k j => A (ix4 k 0 q j)) (fun k => sc (ix2 k q)) (fun j => B (ix2 0 j)) j
/-- its new residual, -/
def hRow (q : Fin 128) (j : Fin 7168) : EReal := resid (vRow sc A B q) (fun j => G (ix2 0 j)) (fun j => X (ix3 0 q j)) j
/-- and its normed residual. -/
def yRow (q : Fin 128) (j : Fin 7168) : EReal := normed (hRow sc A B G X q) (fun j => N (ix2 0 j)) j

variable {h : Nat} (hh : h < 2) (r : Fin 64)

/-- Row `r` of half `h`, as a token of the block. -/
abbrev tok : Fin 128 := ⟨64 * h + r.val, by omega⟩

/-- The sum as the kernel takes it, each scale in its parts. -/
def tRow (q : Fin 128) (j : Fin 7168) : EReal := preParts (fun k j => A (ix4 k 0 q j)) (fun k => sc (ix2 k q)) (fun j => B (ix2 0 j)) j

theorem tH_row : RowIs (tH sc A B hh) r (tRow sc A B (tok hh r)) := by
  intro c hc l
  show tChunk (scaleMat h sc) (ld A (rC hh hc)) (ld B (rV hc)) (ix2 r l) = _
  rw [tChunk_at sc hh _ _ r l (fun k => sc (ix2 k (tok hh r))) (fun k => rfl), ldV_at]
  simp only [ldA_at A hh hc _ r l]
  rfl

theorem r1H_row : r1H sc A B hh (ix2 r 0) = inv (tRow sc A B (tok hh r)) :=
  invRms_row (tH_row sc A B hh r)

theorem hH_row : RowIs (fun c hc => wide (hH sc A B G X hh c hc)) r (hRow sc A B G X (tok hh r)) := by
  intro c hc l
  have e : wide (hH sc A B G X hh c hc) (ix2 r l)
      = ld X (rB hh hc) (ix3 0 r l) + payS hc (tH sc A B hh c hc) (ix2 r l) * spreadCol (r1H sc A B hh) (ix2 r l) * spreadRow (ld G (rV hc)) (ix2 r l) := by
    show hChunk (r1H sc A B hh) (ld X (rB hh hc)) (payS hc (tH sc A B hh c hc)) (ld G (rV hc)) (ix2 r l) = _
    pointwise [hChunk]
  show wide (hH sc A B G X hh c hc) (ix2 r l) = _
  rw [e, payS_eq, spreadCol_at, spreadRow_at, ldB_at, ldV_at, r1H_row sc A B hh r, tH_row sc A B hh r]
  exact congrFun (resid_parts (fun k j => A (ix4 k 0 (tok hh r) j)) (fun k => sc (ix2 k (tok hh r))) (fun j => B (ix2 0 j))
    (fun j => G (ix2 0 j)) (fun j => X (ix3 0 (tok hh r) j))) ⟨256 * c + l.val, by omega⟩

theorem r2H_row : r2H sc A B G X hh (ix2 r 0) = inv (hRow sc A B G X (tok hh r)) :=
  invRms_row (hH_row sc A B G X hh r)

theorem gH_row : RowIs (gH sc A B G N X hh) r fun j => hRow sc A B G X (tok hh r) j * N (ix2 0 j) := by
  intro c hc l
  show wide (hH sc A B G X hh c hc) (ix2 r l) * spreadRow (ld N (rV hc)) (ix2 r l) = _
  have e : wide (hH sc A B G X hh c hc) (ix2 r l) = _ := hH_row sc A B G X hh r c hc l
  rw [spreadRow_at, ldV_at, e]

/-- The row's quotient. -/
theorem amH_row : rowMax (maxes (gH sc A B G N X hh) 28 (Nat.le_refl _)) (r2H sc A B G X hh) (ix2 r 0)
    = amax (yRow sc A B G N X (tok hh r)) :=
  rowMax_row (gH_row sc A B G N X hh r) _ (r2H_row sc A B G X hh r)

variable (hN : ∀ j, max (N j) (-N j) ≤ Ideal.ofBits .f32 0x7F7FFFFF#32)

include hN in
/-- The row's scale, and its reciprocal. -/
theorem sH_row :
    sH sc A B G N X hh (ix2 r 0) = Ideal.exp2 (Spec.expo (amax (yRow sc A B G N X (tok hh r))))
    ∧ invOf (F := Ideal) (eH sc A B G N X hh) (ix2 r 0) = Ideal.exp2 (0 - Spec.expo (amax (yRow sc A B G N X (tok hh r)))) := by
  have e := amH_row sc A B G N X hh r
  have := scale_row (rowMax (maxes (gH sc A B G N X hh) 28 (Nat.le_refl _)) (r2H sc A B G X hh)) r (by
    rw [e]; exact amax_real _ _ fun j => hN _)
  rw [e] at this
  exact this

include hN in
/-- The row's codes. -/
theorem qH_row (c : Nat) (hc : c < 28) (l : Fin 256) :
    qH sc A B G N X hh c hc (ix2 r l)
      = code (yRow sc A B G N X (tok hh r) ⟨256 * c + l.val, by omega⟩) (Spec.expo (amax (yRow sc A B G N X (tok hh r)))) := by
  have e : qH sc A B G N X hh c hc (ix2 r l) = min (Ideal.ofBits .f32 0x43E00000#32) (max (Ideal.ofBits .f32 0xC3E00000#32)
      (payS hc (gH sc A B G N X hh c hc) (ix2 r l) * spreadCol (mulf (r2H sc A B G X hh) (invOf (eH sc A B G N X hh))) (ix2 r l))) := by
    show qChunk (mulf (r2H sc A B G X hh) (invOf (eH sc A B G N X hh))) (payS hc (gH sc A B G N X hh c hc)) (ix2 r l) = _
    pointwise [qChunk]
  have em : mulf (r2H sc A B G X hh) (invOf (eH sc A B G N X hh)) (ix2 r 0) = r2H sc A B G X hh (ix2 r 0) * invOf (F := Ideal) (eH sc A B G N X hh) (ix2 r 0) := rfl
  rw [e, payS_eq, spreadCol_at, em, r2H_row sc A B G X hh r, (sH_row sc A B G N X hh r hN).2, gH_row sc A B G N X hh r]
  unfold code top8 bot8
  congr 2
  rw [← mul_assoc, mul_right_comm (hRow sc A B G X (tok hh r) _)]
  rfl
end

/-! ## The blocks -/

theorem tok_of (q : Fin 128) : tok (h := q.val / 64) (by omega) ⟨q.val % 64, by omega⟩ = q :=
  Fin.ext (by show 64 * (q.val / 64) + q.val % 64 = q.val; omega)

theorem col_of (j : Fin 7168) : (⟨256 * (j.val / 256) + j.val % 256, by omega⟩ : Fin 7168) = j :=
  Fin.ext (by show 256 * (j.val / 256) + j.val % 256 = j.val; omega)

theorem payB_eq {h c : Nat} (hh : h < 2) (hc : c < 28) {φ : FTy} (t : FVec Ideal S64x256 φ) (r : Fin 64) (l : Fin 256) :
    payB hh hc t (ix3 0 r l) = t (ix2 r l) := by
  show shapeCast S1x64x256 t shapeCasts_S64x256_S1x64x256 (ix3 0 r l) = _
  pointwise

section
variable (i : grid0.Coords) (b : Fin 3) (hb : (i 0).val = b.val) (J : Fin 16) (hJ : (i 1).val = J.val)
  (x0 : Vec Ideal S4x1x128x7168 .fp8e4m3) (x1 : Vec Ideal S4x3x2048 .f32) (x2 x3 : Vec Ideal S1x7168 .f32) (x4 : Vec Ideal S1x128x7168 .bf16) (x5 : Vec Ideal S1x7168 .f32)

include hb hJ in
/-- The partials' scales at the point. -/
theorem scB_at (k : Fin 4) (q : Fin 128) : scB i x1 (ix2 k q) = x1 (ix3 k b ⟨128 * J.val + q.val, by omega⟩) := by
  unfold scB
  rw [batchScales_at i b hb]
  refine congrArg x1 (funext fun a => Fin.ext ?_)
  have key : ∀ n : Fin 16, (Scalar.indexCast (Scalar.muli (BitVec.ofNat 32 n.val) 128#32)).toNat = 128 * n.val := by decide +kernel
  have hk : k0_off1 i 2 = 128 * J.val := by
    show (Scalar.indexCast (Scalar.muli (BitVec.ofNat 32 (i 1).val) 128#32)).toNat = _
    rw [hJ, key]
  match a with
  | 0 => show 0 + 1 * k.val = k.val; omega
  | 1 => show 0 + 1 * b.val = b.val; omega
  | 2 => show k0_off1 i 2 + 1 * q.val = 128 * J.val + q.val; rw [hk]; omega

variable (hN : ∀ j, max (x5 j) (-x5 j) ≤ Ideal.ofBits .f32 0x7F7FFFFF#32)

/-- The block of the new residual. -/
theorem resB_at (q : Fin 128) (j : Fin 7168) : resB i x0 x1 x2 x3 x4 (ix3 0 q j) = hRow (scB i x1) x0 x2 x3 x4 q j := by
  show payB (h := q.val / 64) (by omega) (c := j.val / 256) (by omega) (hH (scB i x1) x0 x2 x3 x4 (h := q.val / 64) (by omega) (j.val / 256) (by omega))
    (ix3 0 ⟨q.val % 64, by omega⟩ ⟨j.val % 256, by omega⟩) = _
  rw [payB_eq]
  have := hH_row (scB i x1) x0 x2 x3 x4 (h := q.val / 64) (by omega) ⟨q.val % 64, by omega⟩ (j.val / 256) (by omega)
    ⟨j.val % 256, by omega⟩
  rw [tok_of, col_of] at this
  exact this

include hN in
/-- The block of codes. -/
theorem codB_at (q : Fin 128) (j : Fin 7168) : codB i x0 x1 x2 x3 x4 x5 (ix3 0 q j)
    = code (yRow (scB i x1) x0 x2 x3 x5 x4 q j) (Spec.expo (amax (yRow (scB i x1) x0 x2 x3 x5 x4 q))) := by
  show payB (h := q.val / 64) (by omega) (c := j.val / 256) (by omega) (qH (scB i x1) x0 x2 x3 x5 x4 (h := q.val / 64) (by omega) (j.val / 256) (by omega))
    (ix3 0 ⟨q.val % 64, by omega⟩ ⟨j.val % 256, by omega⟩) = _
  rw [payB_eq]
  have := qH_row (scB i x1) x0 x2 x3 x5 x4 (h := q.val / 64) (by omega) ⟨q.val % 64, by omega⟩ hN (j.val / 256) (by omega)
    ⟨j.val % 256, by omega⟩
  rw [tok_of, col_of] at this
  exact this

include hN in
/-- The block's scales. -/
theorem scaB_at (q : Fin 128) : scaB i x0 x1 x2 x3 x4 x5 (ix1 q)
    = Ideal.exp2 (Spec.expo (amax (yRow (scB i x1) x0 x2 x3 x5 x4 q))) := by
  unfold scaB
  rw [laneScales_at]
  split
  · rename_i hq
    have := (sH_row (scB i x1) x0 x2 x3 x5 x4 (h := 0) (by decide) ⟨q.val, hq⟩ hN).1
    rw [show tok (h := 0) (by decide) ⟨q.val, hq⟩ = q from Fin.ext (by show 64 * 0 + q.val = q.val; omega)] at this
    exact this
  · rename_i hq
    have := (sH_row (scB i x1) x0 x2 x3 x5 x4 (h := 1) (by decide) ⟨q.val - 64, by omega⟩ hN).1
    rw [show tok (h := 1) (by decide) ⟨q.val - 64, by omega⟩ = q from Fin.ext (by show 64 * 1 + (q.val - 64) = q.val; omega)] at this
    exact this
end

end Cert.KernelIdeal.Sandwich
-- ==== Proof.Result.lean ====
/- The three results as functions of the argument arrays: what both programs are shown to leave. -/
module

public import proofs.«01_k».proof.Proof.Spec
public import Idealize.ShloMosaic.Lib.Pointwise.Index

@[expose] public section

set_option maxRecDepth 16384

noncomputable section

namespace Cert.Spec

open Idealize.ShloMosaic

variable (a0 : (⟨4, ![4, 3, 2048, 7168]⟩ : Shape).Idx → EReal) (a1 : (⟨3, ![4, 3, 2048]⟩ : Shape).Idx → EReal)
  (a2 a3 a5 : (⟨1, ![7168]⟩ : Shape).Idx → EReal) (a4 : (⟨3, ![3, 2048, 7168]⟩ : Shape).Idx → EReal)

/-- Token `t` of batch `b`: the sum over shards and the bias, -/
def vTok (b : Fin 3) (t : Fin 2048) (j : Fin 7168) : EReal :=
  pre (fun k j => a0 (ix4 k b t j)) (fun k => a1 (ix3 k b t)) (fun j => a2 (ix1 j)) j
/-- its new residual, -/
def hTok (b : Fin 3) (t : Fin 2048) (j : Fin 7168) : EReal :=
  resid (vTok a0 a1 a2 b t) (fun j => a3 (ix1 j)) (fun j => a4 (ix3 b t j)) j
/-- its normed row, -/
def yTok (b : Fin 3) (t : Fin 2048) (j : Fin 7168) : EReal := normed (hTok a0 a1 a2 a3 a4 b t) (fun j => a5 (ix1 j)) j
/-- and its exponent. -/
def eTok (b : Fin 3) (t : Fin 2048) : EReal := expo (amax (yTok a0 a1 a2 a3 a5 a4 b t))

/-- The array of new residuals, -/
def resArr : (⟨3, ![3, 2048, 7168]⟩ : Shape).Idx → EReal := fun i => hTok a0 a1 a2 a3 a4 (i 0) (i 1) (i 2)
/-- the array of codes, -/
def codArr : (⟨3, ![3, 2048, 7168]⟩ : Shape).Idx → EReal :=
  fun i => code (yTok a0 a1 a2 a3 a5 a4 (i 0) (i 1) (i 2)) (eTok a0 a1 a2 a3 a5 a4 (i 0) (i 1))
/-- and the array of scales. -/
def scaArr : (⟨2, ![3, 2048]⟩ : Shape).Idx → EReal := fun i => Ideal.exp2 (eTok a0 a1 a2 a3 a5 a4 (i 0) (i 1))

end Cert.Spec
-- ==== Proof.Arrays.lean ====
/- The idealized kernel's result arrays after a run, as functions of its argument arrays. -/
module

public import proofs.«01_k».proof.Proof.Run
public import proofs.«01_k».proof.Proof.Half
public import proofs.«01_k».proof.Proof.Result

@[expose] public section

set_option synthInstance.maxSize 4096
set_option maxRecDepth 16384

noncomputable section

namespace Cert.KernelIdeal.Sandwich

open Idealize.ShloMosaic Idealize.ShloMosaic.TcCoe Idealize.ShloMosaic.Tactic Idealize.SL.Sem
open Cert.KernelIdeal.Gen
open Idealize.ShloMosaic.Pipeline (Dat RDat Cfg Window)
open Cert.Spec

/-! ## The grid and the windows' places -/

theorem lt48 (t : Fin cfg0.N) : t.val < 48 := lt_of_lt_of_eq t.isLt (show cfg0.N = 48 from N_0)

/-- Point `t`'s batch, -/
def bOf (t : Fin cfg0.N) : Fin 3 := ⟨t.val / 16, by have := lt48 t; omega⟩
/-- and its tile of tokens. -/
def jOf (t : Fin cfg0.N) : Fin 16 := ⟨t.val % 16, Nat.mod_lt _ (by decide)⟩
/-- Token `q` of point `t`'s tile. -/
def tokOf (t : Fin cfg0.N) (q : Fin 128) : Fin 2048 := ⟨128 * (jOf t).val + q.val, by have := (jOf t).isLt; omega⟩

theorem coord0 (t : Fin cfg0.N) : (grid0.coords t 0).val = (bOf t).val := by
  have e0 : (grid0.coords t 0).val = t.val / 16 % 3 := Pipeline.Grid.coords_val t 0 (by decide) rfl
  have := lt48 t
  rw [e0]; show t.val / 16 % 3 = t.val / 16; omega

theorem coord1 (t : Fin cfg0.N) : (grid0.coords t 1).val = (jOf t).val := by
  have e1 : (grid0.coords t 1).val = t.val / 1 % 16 := Pipeline.Grid.coords_val t 1 (by decide) rfl
  rw [e1, Nat.div_one]; rfl

theorem ofNat_coord (n : Nat) (h : n < 2 ^ 32) : (BitVec.ofNat 32 n).toNat = n := by
  rw [BitVec.toNat_ofNat]; exact Nat.mod_eq_of_lt h

theorem w0 (t : Fin cfg0.N) : (BitVec.ofNat 32 (grid0.coords t 0).val).toNat = (bOf t).val := by
  rw [coord0]; exact ofNat_coord _ (by have := (bOf t).isLt; omega)

theorem w1 (t : Fin cfg0.N) : (BitVec.ofNat 32 (grid0.coords t 1).val).toNat = (jOf t).val := by
  rw [coord1]; exact ofNat_coord _ (by have := (jOf t).isLt; omega)

/-- An index of the block of payloads, in its array. -/
theorem emb_0 (t : Fin cfg0.N) (k : Fin 4) (q : Fin 128) (j : Fin 7168) :
    ((cfg0.win 0).blk t).view.emb (ix4 k 0 q j) = (ix4 k (bOf t) (tokOf t q) j : S4x3x2048x7168.Idx) :=
  funext fun a => Fin.ext (match a with
    | ⟨0, _⟩ => (by show 0 * 4 + 1 * k.val = k.val; omega)
    | ⟨1, _⟩ => (by show (BitVec.ofNat 32 (grid0.coords t 0).val).toNat * 1 + 1 * 0 = (bOf t).val; rw [w0]; omega)
    | ⟨2, _⟩ => (by show (BitVec.ofNat 32 (grid0.coords t 1).val).toNat * 128 + 1 * q.val = 128 * (jOf t).val + q.val; rw [w1]; omega)
    | ⟨3, _⟩ => (by show 0 * 7168 + 1 * j.val = j.val; omega))

/-- An index of the array of payload scales, whole in its block. -/
theorem emb_1 (t : Fin cfg0.N) (x : S4x3x2048.Idx) : ((cfg0.win 1).blk t).view.emb x = x :=
  funext fun a => Fin.ext (match a with
    | ⟨0, _⟩ => (by show 0 * 4 + 1 * (x 0).val = (x 0).val; omega)
    | ⟨1, _⟩ => (by show 0 * 3 + 1 * (x 1).val = (x 1).val; omega)
    | ⟨2, _⟩ => (by show 0 * 2048 + 1 * (x 2).val = (x 2).val; omega))

/-- An index of the rows of weights, whole in their blocks. -/
theorem emb_2 (t : Fin cfg0.N) (x : S1x7168.Idx) : ((cfg0.win 2).blk t).view.emb x = x :=
  funext fun a => Fin.ext (match a with
    | ⟨0, _⟩ => (by show 0 * 1 + 1 * (x 0).val = (x 0).val; omega)
    | ⟨1, _⟩ => (by show 0 * 7168 + 1 * (x 1).val = (x 1).val; omega))
theorem emb_3 (t : Fin cfg0.N) (x : S1x7168.Idx) : ((cfg0.win 3).blk t).view.emb x = x := emb_2 t x
theorem emb_5 (t : Fin cfg0.N) (x : S1x7168.Idx) : ((cfg0.win 5).blk t).view.emb x = x := emb_2 t x

/-- An index of a block of activations, in its array. -/
theorem emb_4 (t : Fin cfg0.N) (q : Fin 128) (j : Fin 7168) :
    ((cfg0.win 4).blk t).view.emb (ix3 0 q j) = (ix3 (bOf t) (tokOf t q) j : S3x2048x7168.Idx) :=
  funext fun a => Fin.ext (match a with
    | ⟨0, _⟩ => (by show (BitVec.ofNat 32 (grid0.coords t 0).val).toNat * 1 + 1 * 0 = (bOf t).val; rw [w0]; omega)
    | ⟨1, _⟩ => (by show (BitVec.ofNat 32 (grid0.coords t 1).val).toNat * 128 + 1 * q.val = 128 * (jOf t).val + q.val; rw [w1]; omega)
    | ⟨2, _⟩ => (by show 0 * 7168 + 1 * j.val = j.val; omega))
theorem emb_6 (t : Fin cfg0.N) (q : Fin 128) (j : Fin 7168) :
    ((cfg0.win 6).blk t).view.emb (ix3 0 q j) = (ix3 (bOf t) (tokOf t q) j : S3x2048x7168.Idx) := emb_4 t q j
theorem emb_7 (t : Fin cfg0.N) (q : Fin 128) (j : Fin 7168) :
    ((cfg0.win 7).blk t).view.emb (ix3 0 q j) = (ix3 (bOf t) (tokOf t q) j : S3x2048x7168.Idx) := emb_4 t q j

/-- The point whose tile holds token `k` of batch `b`, -/
def pt (b : Fin 3) (k : Fin 2048) : Fin cfg0.N := ⟨16 * b.val + k.val / 128, by rw [show cfg0.N = 48 from N_0]; omega⟩
/-- and the token's place in the tile. -/
def ql (k : Fin 2048) : Fin 128 := ⟨k.val % 128, Nat.mod_lt _ (by decide)⟩

theorem bOf_pt (b : Fin 3) (k : Fin 2048) : bOf (pt b k) = b :=
  Fin.ext (by show (16 * b.val + k.val / 128) / 16 = b.val; omega)
theorem tokOf_pt (b : Fin 3) (k : Fin 2048) : tokOf (pt b k) (ql k) = k :=
  Fin.ext (by show 128 * ((16 * b.val + k.val / 128) % 16) + k.val % 128 = k.val; omega)

theorem cover_6 (i : S3x2048x7168.Idx) : ∃ t : Fin cfg0.N, (cfg0.win 6).flush t = true ∧ i ∈ ((cfg0.win 6).blk t).view.set := by
  idx_vars i
  refine ⟨pt i0 i1, flush0_6 _, ?_⟩
  have h := ((cfg0.win 6).blk (pt i0 i1)).view.emb_mem_set (ix3 0 (ql i1) i2)
  rwa [emb_6, bOf_pt, tokOf_pt] at h

theorem cover_7 (i : S3x2048x7168.Idx) : ∃ t : Fin cfg0.N, (cfg0.win 7).flush t = true ∧ i ∈ ((cfg0.win 7).blk t).view.set := by
  idx_vars i
  refine ⟨pt i0 i1, flush0_7 _, ?_⟩
  have h := ((cfg0.win 7).blk (pt i0 i1)).view.emb_mem_set (ix3 0 (ql i1) i2)
  rwa [emb_7, bOf_pt, tokOf_pt] at h

/-- Where point `t`'s scales lie in the array of scales. -/
theorem rAt_emb (t : Fin cfg0.N) (q : Fin 128) : (rAt t).emb (ix2 0 q) = (ix2 (bOf t) (tokOf t q) : S3x2048.Idx) :=
  funext fun a => Fin.ext (match a with
    | ⟨0, _⟩ => (by show (grid0.coords t 0).val + 1 * 0 = (bOf t).val; rw [coord0]; omega)
    | ⟨1, _⟩ => (by show 128 * (grid0.coords t 1).val + 1 * q.val = 128 * (jOf t).val + q.val; rw [coord1]; omega))

/-! ## The blocks of the inputs -/

section
variable {F : FTy → Type} [FloatOps F] [Named F]
variable (m : (ℓ : Loc nD τ sig) → Buf (Elt F) ℓ) (ρ : Dev nD → PrngReg)

theorem V_v0 (c : Dev nD) : V m c main_v0 = shapeCast S1x7168 (m ((c : Thread nD τ).loc main_arg2) : Vec F S7168 .f32) shapeCasts_S7168_S1x7168 := by
  show StableHlo.after hostOps0 _ (Proc.devRef .tc main_v0) = _
  after_results
  rfl
theorem V_v1 (c : Dev nD) : V m c main_v1 = shapeCast S1x7168 (m ((c : Thread nD τ).loc main_arg3) : Vec F S7168 .f32) shapeCasts_S7168_S1x7168 := by
  show StableHlo.after hostOps0 _ (Proc.devRef .tc main_v1) = _
  after_results
  rfl
theorem V_v2 (c : Dev nD) : V m c main_v2 = shapeCast S1x7168 (m ((c : Thread nD τ).loc main_arg5) : Vec F S7168 .f32) shapeCasts_S7168_S1x7168 := by
  show StableHlo.after hostOps0 _ (Proc.devRef .tc main_v2) = _
  after_results
  rfl

theorem row_at (x : Vec F S7168 .f32) (j : Fin 7168) : shapeCast S1x7168 x shapeCasts_S7168_S1x7168 (ix2 0 j) = x (ix1 j) := by
  pointwise

theorem iblk0_at (c : Dev nD) (t : Fin cfg0.N) (k : Fin 4) (q : Fin 128) (j : Fin 7168) :
    iblk m c 0 t (ix4 k 0 q j) = m ((c : Thread nD τ).loc main_arg0) (ix4 k (bOf t) (tokOf t q) j) := by
  show V m c main_arg0 (((cfg0.win 0).blk t).view.emb (ix4 k 0 q j)) = _
  rw [emb_0, V_main_arg0]
theorem iblk1_at (c : Dev nD) (t : Fin cfg0.N) (x : S4x3x2048.Idx) : iblk m c 1 t x = m ((c : Thread nD τ).loc main_arg1) x := by
  show V m c main_arg1 (((cfg0.win 1).blk t).view.emb x) = _
  rw [emb_1, V_main_arg1]
theorem iblk2_at (c : Dev nD) (t : Fin cfg0.N) (j : Fin 7168) : iblk m c 2 t (ix2 0 j) = m ((c : Thread nD τ).loc main_arg2) (ix1 j) := by
  show V m c main_v0 (((cfg0.win 2).blk t).view.emb (ix2 0 j)) = _
  rw [emb_2, V_v0, row_at]
theorem iblk3_at (c : Dev nD) (t : Fin cfg0.N) (j : Fin 7168) : iblk m c 3 t (ix2 0 j) = m ((c : Thread nD τ).loc main_arg3) (ix1 j) := by
  show V m c main_v1 (((cfg0.win 3).blk t).view.emb (ix2 0 j)) = _
  rw [emb_3, V_v1, row_at]
theorem iblk4_at (c : Dev nD) (t : Fin cfg0.N) (q : Fin 128) (j : Fin 7168) :
    iblk m c 4 t (ix3 0 q j) = m ((c : Thread nD τ).loc main_arg4) (ix3 (bOf t) (tokOf t q) j) := by
  show V m c main_arg4 (((cfg0.win 4).blk t).view.emb (ix3 0 q j)) = _
  rw [emb_4, V_main_arg4]
theorem iblk5_at (c : Dev nD) (t : Fin cfg0.N) (j : Fin 7168) : iblk m c 5 t (ix2 0 j) = m ((c : Thread nD τ).loc main_arg5) (ix1 j) := by
  show V m c main_v2 (((cfg0.win 5).blk t).view.emb (ix2 0 j)) = _
  rw [emb_5, V_v2, row_at]

/-- After the run every argument array is as it was. -/
theorem kept {r : PUnit × MemSt nD τ sig (Elt F)} (h : RDat.FramePost (cfgs 0) (rdat m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨(RDat.FramePost.arr_in (cfg₁ := cfgs 0) h c 0 rfl).trans (V_main_arg0 m c),
    (RDat.FramePost.arr_in (cfg₁ := cfgs 0) h c 1 rfl).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    (RDat.FramePost.arr_in (cfg₁ := cfgs 0) h c 4 rfl).trans (V_main_arg4 m c),
    ((h c).2 main_arg5 (Pipeline.mem_restRefs_of main_arg5 (by decide) (by decide))).trans (V_main_arg5 m c)⟩

/-- The kernel leaves its arguments as they were and its semaphores drained. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun r hr => ⟨kept m hr.1, hr.2⟩) (run_main m ρ)

end

/-! ## The result arrays -/

section
variable (m : (ℓ : Loc nD τ sig) → Buf (Elt Ideal) ℓ) (ρ : Dev nD → PrngReg)

/-- The payloads, -/
abbrev arg0 (c : Dev nD) : S4x3x2048x7168.Idx → EReal := m ((c : Thread nD τ).loc main_arg0)
/-- their scales, -/
abbrev arg1 (c : Dev nD) : S4x3x2048.Idx → EReal := m ((c : Thread nD τ).loc main_arg1)
/-- the bias, -/
abbrev arg2 (c : Dev nD) : S7168.Idx → EReal := m ((c : Thread nD τ).loc main_arg2)
/-- the first weights, -/
abbrev arg3 (c : Dev nD) : S7168.Idx → EReal := m ((c : Thread nD τ).loc main_arg3)
/-- the residual, -/
abbrev arg4 (c : Dev nD) : S3x2048x7168.Idx → EReal := m ((c : Thread nD τ).loc main_arg4)
/-- and the second weights. -/
abbrev arg5 (c : Dev nD) : S7168.Idx → EReal := m ((c : Thread nD τ).loc main_arg5)

/-- Token `q` of the blocks of point `t` is its token of the arrays: the sum, -/
theorem vRow_iblk (c : Dev nD) (t : Fin cfg0.N) (q : Fin 128) :
    vRow (scB (grid0.coords t) (iblk m c 1 t)) (iblk m c 0 t) (iblk m c 2 t) q
      = vTok (arg0 m c) (arg1 m c) (arg2 m c) (bOf t) (tokOf t q) := by
  funext j
  unfold vRow vTok pre
  simp only [scB_at (grid0.coords t) (bOf t) (coord0 t) (jOf t) (coord1 t), iblk0_at, iblk2_at, iblk1_at]
  rfl
/-- the new residual, -/
theorem hRow_iblk (c : Dev nD) (t : Fin cfg0.N) (q : Fin 128) :
    hRow (scB (grid0.coords t) (iblk m c 1 t)) (iblk m c 0 t) (iblk m c 2 t) (iblk m c 3 t) (iblk m c 4 t) q
      = hTok (arg0 m c) (arg1 m c) (arg2 m c) (arg3 m c) (arg4 m c) (bOf t) (tokOf t q) := by
  funext j
  unfold hRow hTok
  rw [vRow_iblk]
  unfold resid
  simp only [iblk3_at, iblk4_at]
/-- and the normed row. -/
theorem yRow_iblk (c : Dev nD) (t : Fin cfg0.N) (q : Fin 128) :
    yRow (scB (grid0.coords t) (iblk m c 1 t)) (iblk m c 0 t) (iblk m c 2 t) (iblk m c 3 t) (iblk m c 5 t) (iblk m c 4 t) q
      = yTok (arg0 m c) (arg1 m c) (arg2 m c) (arg3 m c) (arg5 m c) (arg4 m c) (bOf t) (tokOf t q) := by
  funext j
  unfold yRow yTok
  rw [hRow_iblk]
  unfold normed
  simp only [iblk5_at]

variable (c : Dev nD) (hN : ∀ x, max (arg5 m c x) (-arg5 m c x) ≤ Ideal.ofBits .f32 0x7F7FFFFF#32)

/-- At most the largest finite number of the format, either sign. -/
abbrev Small (x : EReal) : Prop := max x (-x) ≤ Ideal.ofBits .f32 0x7F7FFFFF#32

include hN in
theorem hN_blk (t : Fin cfg0.N) (x : S1x7168.Idx) :
    Small (iblk m c 5 t x) := by
  idx_vars x
  rw [show x0 = 0 from Subsingleton.elim _ _, iblk5_at]
  exact hN _

theorem resAt_at (t : Fin cfg0.N) (q : Fin 128) (j : Fin 7168) : resAt m c t (ix3 0 q j)
    = resArr (arg0 m c) (arg1 m c) (arg2 m c) (arg3 m c) (arg4 m c) (ix3 (bOf t) (tokOf t q) j) := by
  unfold resAt
  rw [resB_at (grid0.coords t) _ _ _ _ _, hRow_iblk]
  rfl

include hN in
theorem codAt_at (t : Fin cfg0.N) (q : Fin 128) (j : Fin 7168) : codAt m c t (ix3 0 q j)
    = codArr (arg0 m c) (arg1 m c) (arg2 m c) (arg3 m c) (arg5 m c) (arg4 m c) (ix3 (bOf t) (tokOf t q) j) := by
  unfold codAt
  rw [codB_at (grid0.coords t) _ _ _ _ _ _ (hN_blk m c hN t), yRow_iblk]
  rfl

include hN in
theorem scaAt_at (t : Fin cfg0.N) (q : Fin 128) : scaAt m c t (ix2 0 q)
    = scaArr (arg0 m c) (arg1 m c) (arg2 m c) (arg3 m c) (arg5 m c) (arg4 m c) (ix2 (bOf t) (tokOf t q)) := by
  have e : scaAt m c t (ix2 0 q) = scaB (grid0.coords t) (iblk m c 0 t) (iblk m c 1 t) (iblk m c 2 t) (iblk m c 3 t) (iblk m c 4 t)
      (iblk m c 5 t) (ix1 q) := by
    unfold scaAt
    pointwise
  rw [e, scaB_at (grid0.coords t) _ _ _ _ _ _ (hN_blk m c hN t), yRow_iblk]
  rfl

variable {r : PUnit × MemSt nD τ sig (Elt Ideal)} (h : RDat.FramePost (cfgs 0) (rdat m) (V m) r)

include h in
/-- The array of new residuals ends at its function of the arguments, -/
theorem final_res : r.2.mem ((c : Thread nD τ).loc main_v3_0) = resArr (arg0 m c) (arg1 m c) (arg2 m c) (arg3 m c) (arg4 m c) := by
  obtain ⟨after, hL, hE⟩ := RDat.FramePost.exists_exact (cfg₁ := cfgs 0) h c
  refine (hE 6).trans (Dat.arrAt_eq_of_cover ((rdat m c).withAfter after) (6 : Fin cfg0.W) (resArr (arg0 m c) (arg1 m c) (arg2 m c) (arg3 m c) (arg4 m c)) (fun t _ => ?_) cover_6)
  have e : after (6 : Fin cfg0.W) t = resAt m c t := Dat.toRRel_leaves (dats m 0 c) (w := (6 : Fin cfg0.W)) rfl (hL 6 t (flush0_6 t))
  show (cfg0.win 6).cut (grid0.coords t) (after (6 : Fin cfg0.W) t) = _
  rw [e]
  funext x
  obtain ⟨q, j, rfl⟩ : ∃ (q : Fin 128) (j : Fin 7168), x = ix3 0 q j := by
    idx_vars x
    exact ⟨x1, x2, by rw [show x0 = 0 from Subsingleton.elim _ _]⟩
  show resAt m c t (ix3 0 q j) = resArr _ _ _ _ _ (((cfg0.win 6).blk t).view.emb (ix3 0 q j))
  rw [emb_6]
  exact resAt_at m c t q j

include h hN in
/-- the array of codes too, -/
theorem final_cod : r.2.mem ((c : Thread nD τ).loc main_v3_1)
    = codArr (arg0 m c) (arg1 m c) (arg2 m c) (arg3 m c) (arg5 m c) (arg4 m c) := by
  obtain ⟨after, hL, hE⟩ := RDat.FramePost.exists_exact (cfg₁ := cfgs 0) h c
  refine (hE 7).trans (Dat.arrAt_eq_of_cover ((rdat m c).withAfter after) (7 : Fin cfg0.W) (codArr (arg0 m c) (arg1 m c) (arg2 m c) (arg3 m c) (arg5 m c) (arg4 m c)) (fun t _ => ?_) cover_7)
  have e : after (7 : Fin cfg0.W) t = codAt m c t := Dat.toRRel_leaves (dats m 0 c) (w := (7 : Fin cfg0.W)) rfl (hL 7 t (flush0_7 t))
  show (cfg0.win 7).cut (grid0.coords t) (after (7 : Fin cfg0.W) t) = _
  rw [e]
  funext x
  obtain ⟨q, j, rfl⟩ : ∃ (q : Fin 128) (j : Fin 7168), x = ix3 0 q j := by
    idx_vars x
    exact ⟨x1, x2, by rw [show x0 = 0 from Subsingleton.elim _ _]⟩
  show codAt m c t (ix3 0 q j) = codArr _ _ _ _ _ _ (((cfg0.win 7).blk t).view.emb (ix3 0 q j))
  rw [emb_7]
  exact codAt_at m c hN t q j

/-- The last point. -/
def tLast : Fin cfg0.N := ⟨47, by rw [show cfg0.N = 48 from N_0]; decide⟩

/-- The array of scales is written back once, whole, after the last point. -/
theorem whole_8 : (cfg0.win 8).WholeAt tLast :=
  ⟨(flush0_8 _).mpr rfl, fun t ht => Fin.ext (by have := (flush0_8 t).mp ht; have := lt48 t; show t.val = 47; omega), fun a => match a with
    | ⟨0, _⟩ => ⟨rfl, rfl⟩
    | ⟨1, _⟩ => ⟨rfl, rfl⟩⟩

include h hN in
/-- and the array of scales. -/
theorem final_sca : r.2.mem ((c : Thread nD τ).loc main_v3_2)
    = scaArr (arg0 m c) (arg1 m c) (arg2 m c) (arg3 m c) (arg5 m c) (arg4 m c) := by
  obtain ⟨X, hX, hG⟩ := RDat.ArrAt.emb_eq_of_wholeAt ((h c).1 8) whole_8
  have e : ScalesTo m c 48 X := Dat.toRRel_leaves (dats m 0 c) (w := (8 : Fin cfg0.W)) rfl hX
  funext i
  idx_vars i
  have e1 := hG (ix2 i0 i1)
  have e2 := e (pt i0 i1) (lt48 _) (ix2 0 (ql i1))
  rw [rAt_emb, bOf_pt, tokOf_pt, scaAt_at m c hN, bOf_pt, tokOf_pt] at e2
  exact e1.trans e2

end

/-- The idealized kernel's run: its three results at their functions of the arguments, the arguments unchanged. -/
theorem run (m : (ℓ : Loc nD τ sig) → Buf (Elt Ideal) ℓ) (ρ : Dev nD → PrngReg)
    (hN : ∀ c x, Small (arg5 m c x)) :
    θ_run defs (onTc (τ := τ) (main (F := Ideal))) ⟨m, fun _ => 0, ρ⟩ (fun r => ∀ c : Dev nD,
      r.2.mem ((c.tc : Thread nD τ).loc main_v3_0) = resArr (arg0 m c) (arg1 m c) (arg2 m c) (arg3 m c) (arg4 m c)
      ∧ r.2.mem ((c.tc : Thread nD τ).loc main_v3_1) = codArr (arg0 m c) (arg1 m c) (arg2 m c) (arg3 m c) (arg5 m c) (arg4 m c)
      ∧ r.2.mem ((c.tc : Thread nD τ).loc main_v3_2) = scaArr (arg0 m c) (arg1 m c) (arg2 m c) (arg3 m c) (arg5 m c) (arg4 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r hr c => ⟨final_res m c hr.1, final_cod m c (hN c) hr.1, final_sca m c (hN c) hr.1, kept m hr.1 c⟩)
    (run_main m ρ)

end Cert.KernelIdeal.Sandwich
-- ==== Proof.Printed.lean ====
/- The kernel as printed is the idealized kernel with its named constant read as its bits: what is shown of the one at
   every reading of floats holds of the other. -/
module

public import proofs.«01_k».proof.Proof.Gen.Kernel
public import proofs.«01_k».proof.Proof.Arrays

@[expose] public section

set_option maxRecDepth 16384
set_option maxHeartbeats 4000000

noncomputable section

namespace Cert.Kernel.Sandwich

open Idealize.ShloMosaic Idealize.ShloMosaic.TcCoe Idealize.SL.Sem

variable {F : FTy → Type} [FloatOps F]

/-- A named constant read as its bits. -/
@[reducible] def bitsNamed (F : FTy → Type) [FloatOps F] : Named F := ⟨fun _ _ {φ} b => Scalar.ofBits φ b⟩

attribute [local instance] bitsNamed

/-- With named constants read as their bits the idealized kernel has the kernel's body table, -/
theorem defs₀_eq : (defs₀ (F := F)) = Cert.KernelIdeal.defs₀ (F := F) := by
  refine congrArg Defs.onTc (funext fun l => funext fun a => ?_)
  match l, a with
  | 0, (t, s) => rfl
  | ⟨_ + 1, h⟩, _ => exact absurd h (Nat.not_lt.2 (Nat.le_add_left _ _))

/-- the table with the pipeline, -/
theorem defs_eq : (defs (F := F)) = Cert.KernelIdeal.defs (F := F) := by
  unfold defs Cert.KernelIdeal.defs
  rw [defs₀_eq]
  rfl

/-- and the same program. -/
theorem main_eq : (main (F := F)) = Cert.KernelIdeal.main (F := F) := rfl

variable (m : (ℓ : Loc nD τ sig) → Buf (Elt F) ℓ) (ρ : Dev nD → PrngReg)

/-- The kernel leaves its arguments as they were and its semaphores drained. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) := by
  rw [defs_eq, main_eq]
  exact Cert.KernelIdeal.Sandwich.frame m ρ

end Cert.Kernel.Sandwich

end
-- ==== Proof.RefValue.lean ====
/- The reference's values, row by row: its three results are those of the token's row. -/
module

public import proofs.«01_k».proof.Proof.Gen.ReferenceIdeal.Frame
public import proofs.«01_k».proof.Proof.Result
public import Idealize.ShloMosaic.Lib.Pointwise

@[expose] public section

set_option synthInstance.maxSize 4096
set_option maxRecDepth 16384

noncomputable section

namespace Cert.ReferenceIdeal.Sandwich

open Idealize.ShloMosaic Idealize.SL.Sem Cert.ReferenceIdeal.Gen
open Idealize.ShloMosaic.View (ld)
open Cert.Spec

/-! ## The payloads at a token -/

theorem pay4_at (v0 v8 v17 : Vec Ideal S1x3x2048x7168 .fp8e4m3) (v3 v11 v20 : Vec Ideal S1x3x2048 .f32) (b : Fin 3) (t : Fin 2048) (j : Fin 7168) :
    (k0_pay4 v0 v3 v8 v11 v17 v20 (ix3 b t j) : EReal)
      = (v0 (ix4 0 b t j) : EReal) * v3 (ix3 0 b t) + (v8 (ix4 0 b t j) : EReal) * v11 (ix3 0 b t) + (v17 (ix4 0 b t j) : EReal) * v20 (ix3 0 b t) := by
  pointwise [k0_pay4]

theorem pay5_at (v : Vec Ideal S1x3x2048x7168 .fp8e4m3) (b : Fin 3) (t : Fin 2048) (j : Fin 7168) :
    k0_pay5 v (ix3 b t j) = v (ix4 0 b t j) := by
  pointwise [k0_pay5]

theorem pay6_at (v : Vec Ideal S1x3x2048 .f32) (b : Fin 3) (t : Fin 2048) :
    k0_pay6 v (ix3 b t 0) = v (ix3 0 b t) := by
  pointwise [k0_pay6]

section
variable (v25 v28 : FVec Ideal S3x2048x7168 .f32) (v31 : FVec Ideal S3x2048x1 .f32) (v35 : Vec Ideal S3x2048x7168 .bf16)
  (v37 v41 v58 : Vec Ideal S1x1x7168 .f32) (b : Fin 3) (t : Fin 2048)

/-- The biased sum that the second part forms, at a token. -/
def wRow (j : Fin 7168) : EReal := ((v25 (ix3 b t j) : EReal) + (v28 (ix3 b t j) : EReal) * v31 (ix3 b t 0)) + v37 (ix3 0 0 j)

theorem pay7_at (j : Fin 7168) : k0_pay7 v25 v28 v31 v35 v37 v41 (ix3 b t j)
    = resid (wRow v25 v28 v31 v37 b t) (fun j => v41 (ix3 0 0 j)) (fun j => v35 (ix3 b t j)) j := by
  pointwise [k0_pay7]
  rw [d_eq, Ideal.div_coe (by norm_num : (7168 : ℝ) ≠ 0)]
  rfl

theorem pay8_at (j : Fin 7168) : k0_pay8 v25 v28 v31 v35 v37 v41 v58 (ix3 b t j)
    = normed (fun j => k0_pay7 v25 v28 v31 v35 v37 v41 (ix3 b t j)) (fun j => v58 (ix3 0 0 j)) j := by
  pointwise [k0_pay8]
  rw [d_eq, Ideal.div_coe (by norm_num : (7168 : ℝ) ≠ 0)]
  rfl

theorem pay9_at (j : Fin 7168) : (k0_pay9 v25 v28 v31 v35 v37 v41 v58 (ix3 b t j) : EReal)
    = max (k0_pay8 v25 v28 v31 v35 v37 v41 v58 (ix3 b t j) : EReal) (-(k0_pay8 v25 v28 v31 v35 v37 v41 v58 (ix3 b t j) : EReal)) := rfl

end

/-- The largest of each token's magnitudes. -/
def tokMax (v : FVec Ideal S3x2048x7168 .f32) : FVec Ideal S3x2048 .f32 :=
  multiReduction .maximumf [2] S3x2048 v 0xFF800000#32 reduces_S3x2048x7168_S3x2048 (.inl rfl) rfl

theorem tokMax_at (v : FVec Ideal S3x2048x7168 .f32) (b : Fin 3) (t : Fin 2048) :
    tokMax v (ix2 b t) = Finset.univ.fold max (⊥ : EReal) fun j : Fin 7168 => v (ix3 b t j) := by
  pointwise [tokMax]
  rw [ninf_eq]

/-- The exponents from the largest magnitudes. -/
def expoOf (v73 : FVec Ideal S3x2048 .f32) : FVec Ideal S3x2048x1 .f32 :=
  have v76 : FVec Ideal S3x2048x1 .f32 := mulf (shapeCast S3x2048x1 v73 shapeCasts_S3x2048_S3x2048x1) (broadcast S3x2048x1 (Scalar.ofBits .f32 0x3B124925#32))
  select (cmpf .olt v76 (broadcast S3x2048x1 (Scalar.ofBits .f32 0x00800000#32))) (broadcast S3x2048x1 (Scalar.ofBits .f32 0x00000000#32))
    (addf (floor (divf (log v76) (broadcast S3x2048x1 (Scalar.log (Scalar.ofBits .f32 0x40000000#32)))))
      (broadcast S3x2048x1 (Scalar.ofBits .f32 0x3F800000#32)))

theorem pay1_eq (v : FVec Ideal S3x2048x7168 .f32) : k0_pay1 v = expoOf (tokMax v) := rfl

theorem expoOf_at (M : FVec Ideal S3x2048 .f32) (b : Fin 3) (t : Fin 2048) : expoOf M (ix3 b t 0) = Spec.expo (M (ix2 b t) * c448) := by
  pointwise [expoOf]
  rfl

theorem pay1_at (v : FVec Ideal S3x2048x7168 .f32) (b : Fin 3) (t : Fin 2048) :
    k0_pay1 v (ix3 b t 0) = Spec.expo ((Finset.univ.fold max (⊥ : EReal) fun j : Fin 7168 => v (ix3 b t j)) * c448) := by
  rw [pay1_eq, expoOf_at, tokMax_at]

/-- The codes from the normed array and the exponents, -/
def codesOf (v71 : FVec Ideal S3x2048x7168 .f32) (e : FVec Ideal S3x2048x1 .f32) : FVec Ideal S3x2048x7168 .fp8e4m3 :=
  truncf .fp8e4m3 (minimumf (broadcast S3x2048x7168 (Scalar.ofBits .f32 0x43E00000#32)) (maximumf (broadcast S3x2048x7168 (Scalar.ofBits .f32 0xC3E00000#32))
    (mulf v71 (broadcastTo S3x2048x7168 (exp2 (subf (broadcast S3x2048x1 (Scalar.ofBits .f32 0x00000000#32)) e)) broadcasts_S3x2048x1_S3x2048x7168))))
    bitsLt_fp8e4m3_f32

/-- and the scales from the exponents. -/
def scalesOf (e : FVec Ideal S3x2048x1 .f32) : FVec Ideal S3x2048 .f32 := shapeCast S3x2048 (exp2 e) shapeCasts_S3x2048x1_S3x2048

theorem pay2_eq (v71 v72 : FVec Ideal S3x2048x7168 .f32) : k0_pay2 v71 v72 = codesOf v71 (k0_pay1 v72) := rfl
theorem pay3_eq (v72 : FVec Ideal S3x2048x7168 .f32) : k0_pay3 v72 = scalesOf (k0_pay1 v72) := rfl

theorem codesOf_at (v71 : FVec Ideal S3x2048x7168 .f32) (e : FVec Ideal S3x2048x1 .f32) (b : Fin 3) (t : Fin 2048) (j : Fin 7168) :
    codesOf v71 e (ix3 b t j) = code (v71 (ix3 b t j)) (e (ix3 b t 0)) := by
  pointwise [codesOf]
  rfl

theorem scalesOf_at (e : FVec Ideal S3x2048x1 .f32) (b : Fin 3) (t : Fin 2048) : scalesOf e (ix2 b t) = Ideal.exp2 (e (ix3 b t 0)) := by
  pointwise [scalesOf]
  rfl

theorem pay2_at (v71 v72 : FVec Ideal S3x2048x7168 .f32) (b : Fin 3) (t : Fin 2048) (j : Fin 7168) :
    k0_pay2 v71 v72 (ix3 b t j) = code (v71 (ix3 b t j)) (k0_pay1 v72 (ix3 b t 0)) := by
  rw [pay2_eq, codesOf_at]

theorem pay3_at (v72 : FVec Ideal S3x2048x7168 .f32) (b : Fin 3) (t : Fin 2048) :
    k0_pay3 v72 (ix2 b t) = Ideal.exp2 (k0_pay1 v72 (ix3 b t 0)) := by
  rw [pay3_eq, scalesOf_at]

/-! ## The three results at a token -/

theorem hz3 : (![0, 0, 0] : Fin 3 → Nat) = fun _ => 0 := funext fun a => by fin_cases a <;> rfl
theorem hz2 : (![0, 0] : Fin 2 → Nat) = fun _ => 0 := funext fun a => by fin_cases a <;> rfl

section
variable (x0 : Vec Ideal S4x3x2048x7168 .fp8e4m3) (x1 : Vec Ideal S4x3x2048 .f32) (x2 x3 x5 : Vec Ideal S1x1x7168 .f32)
  (x4 : Vec Ideal S3x2048x7168 .bf16) (b : Fin 3) (t : Fin 2048)

/-- One shard of the payloads, -/
theorem ld_shard {k : Fin 4} {h} (b : Fin 3) (t : Fin 2048) (j : Fin 7168) :
    ld x0 (Rect.unit (s := S4x3x2048x7168) ![k.val, 0, 0, 0] S1x3x2048x7168.size h) (ix4 0 b t j) = x0 (ix4 k b t j) :=
  congrArg x0 (funext fun a => Fin.ext (match a with
    | 0 => (by show k.val + 1 * 0 = k.val; omega)
    | 1 => (by show 0 + 1 * b.val = b.val; omega)
    | 2 => (by show 0 + 1 * t.val = t.val; omega)
    | 3 => (by show 0 + 1 * j.val = j.val; omega)))

/-- and one shard of their scales. -/
theorem ld_scale {k : Fin 4} {h} (b : Fin 3) (t : Fin 2048) :
    ld x1 (Rect.unit (s := S4x3x2048) ![k.val, 0, 0] S1x3x2048.size h) (ix3 0 b t) = x1 (ix3 k b t) :=
  congrArg x1 (funext fun a => Fin.ext (match a with
    | 0 => (by show k.val + 1 * 0 = k.val; omega)
    | 1 => (by show 0 + 1 * b.val = b.val; omega)
    | 2 => (by show 0 + 1 * t.val = t.val; omega)))

/-- The biased sum over shards, -/
def vRef (j : Fin 7168) : EReal := pre (fun k j => x0 (ix4 k b t j)) (fun k => x1 (ix3 k b t)) (fun j => x2 (ix3 0 0 j)) j
/-- the new residual, -/
def hRef (j : Fin 7168) : EReal := resid (vRef x0 x1 x2 b t) (fun j => x3 (ix3 0 0 j)) (fun j => x4 (ix3 b t j)) j
/-- and the normed row. -/
def yRef (j : Fin 7168) : EReal := normed (hRef x0 x1 x2 x3 x4 b t) (fun j => x5 (ix3 0 0 j)) j

theorem w_at : wRow (k0_pay10 x0 x1 x2 x3 x4 x5) (k0_pay11 x0 x1 x2 x3 x4 x5) (k0_pay12 x0 x1 x2 x3 x4 x5) x2 b t = vRef x0 x1 x2 b t := by
  funext j
  unfold wRow k0_pay10 k0_pay11 k0_pay12 vRef pre
  rw [pay4_at, pay5_at, pay6_at]
  exact congrArg₂ (fun p q : EReal => p + q + _)
    (congrArg₂ (· + ·) (congrArg₂ (· + ·) (congrArg₂ (· * ·) (ld_shard x0 (k := 0) b t j) (ld_scale x1 (k := 0) b t))
      (congrArg₂ (· * ·) (ld_shard x0 (k := 1) b t j) (ld_scale x1 (k := 1) b t)))
      (congrArg₂ (· * ·) (ld_shard x0 (k := 2) b t j) (ld_scale x1 (k := 2) b t)))
    (congrArg₂ (· * ·) (ld_shard x0 (k := 3) b t j) (ld_scale x1 (k := 3) b t))

theorem out6_at (j : Fin 7168) : out0_6 x0 x1 x2 x3 x4 x5 (ix3 b t j) = hRef x0 x1 x2 x3 x4 b t j := by
  unfold out0_6
  rw [View.canon_unit_zero hz3, View.ld_unit_zero hz3, View.ld_unit_zero hz3, View.ld_unit_zero hz3, pay7_at, w_at]
  rfl

/-- The normed array. -/
theorem y_at (j : Fin 7168) : k0_pay8 (k0_pay10 x0 x1 x2 x3 x4 x5) (k0_pay11 x0 x1 x2 x3 x4 x5) (k0_pay12 x0 x1 x2 x3 x4 x5) x4 x2 x3 x5 (ix3 b t j)
    = yRef x0 x1 x2 x3 x5 x4 b t j := by
  rw [pay8_at]
  unfold yRef
  refine congrArg (fun h => normed h _ j) (funext fun j => ?_)
  rw [pay7_at, w_at]
  rfl

/-- The exponents. -/
theorem e_at : k0_pay1 (k0_pay13 x0 x1 x2 x3 x4 x5) (ix3 b t 0) = Spec.expo (amax (yRef x0 x1 x2 x3 x5 x4 b t)) := by
  rw [pay1_at]
  unfold amax
  refine congrArg (fun f : Fin 7168 → EReal => Spec.expo (Finset.univ.fold max ⊥ f * c448)) (funext fun j => ?_)
  unfold k0_pay13
  rw [View.ld_unit_zero hz3, View.ld_unit_zero hz3, View.ld_unit_zero hz3, View.ld_unit_zero hz3, pay9_at, y_at]

theorem out7_at (j : Fin 7168) : out0_7 x0 x1 x2 x3 x4 x5 (ix3 b t j)
    = code (yRef x0 x1 x2 x3 x5 x4 b t j) (Spec.expo (amax (yRef x0 x1 x2 x3 x5 x4 b t))) := by
  unfold out0_7
  rw [View.canon_unit_zero hz3, View.ld_unit_zero hz3, View.ld_unit_zero hz3, View.ld_unit_zero hz3, View.ld_unit_zero hz3, pay2_at, y_at, e_at]

theorem out8_at : out0_8 x0 x1 x2 x3 x4 x5 (ix2 b t) = Ideal.exp2 (Spec.expo (amax (yRef x0 x1 x2 x3 x5 x4 b t))) := by
  unfold out0_8
  rw [View.canon_unit_zero hz2, pay3_at, e_at]

end

end Cert.ReferenceIdeal.Sandwich
-- ==== Proof.RefArrays.lean ====
/- The reference's result arrays after a run, as functions of its argument arrays. -/
module

public import proofs.«01_k».proof.Proof.RefValue

@[expose] public section

set_option synthInstance.maxSize 4096
set_option maxRecDepth 16384

noncomputable section

namespace Cert.ReferenceIdeal.Sandwich

open Idealize.ShloMosaic Idealize.ShloMosaic.TcCoe Idealize.ShloMosaic.Tactic Idealize.SL.Sem
open Cert.ReferenceIdeal.Gen
open Idealize.ShloMosaic.Pipeline (Dat Cfg Window)
open Cert.Spec

/-! ## The windows, whole at the one point -/

theorem idx_four (t : Fin cfg0.N) (x : S4x3x2048x7168.Idx) : ((cfg0.win 0).blk t).view.emb x = x :=
  funext fun a => Fin.ext (match a with
    | ⟨0, _⟩ => (by show 0 * 4 + 1 * (x 0).val = (x 0).val; omega)
    | ⟨1, _⟩ => (by show 0 * 3 + 1 * (x 1).val = (x 1).val; omega)
    | ⟨2, _⟩ => (by show 0 * 2048 + 1 * (x 2).val = (x 2).val; omega)
    | ⟨3, _⟩ => (by show 0 * 7168 + 1 * (x 3).val = (x 3).val; omega))
theorem emb_1 (t : Fin cfg0.N) (x : S4x3x2048.Idx) : ((cfg0.win 1).blk t).view.emb x = x :=
  funext fun a => Fin.ext (match a with
    | ⟨0, _⟩ => (by show 0 * 4 + 1 * (x 0).val = (x 0).val; omega)
    | ⟨1, _⟩ => (by show 0 * 3 + 1 * (x 1).val = (x 1).val; omega)
    | ⟨2, _⟩ => (by show 0 * 2048 + 1 * (x 2).val = (x 2).val; omega))
theorem emb_2 (t : Fin cfg0.N) (x : S1x1x7168.Idx) : ((cfg0.win 2).blk t).view.emb x = x :=
  funext fun a => Fin.ext (match a with
    | ⟨0, _⟩ => (by show 0 * 1 + 1 * (x 0).val = (x 0).val; omega)
    | ⟨1, _⟩ => (by show 0 * 1 + 1 * (x 1).val = (x 1).val; omega)
    | ⟨2, _⟩ => (by show 0 * 7168 + 1 * (x 2).val = (x 2).val; omega))
theorem emb_3 (t : Fin cfg0.N) (x : S1x1x7168.Idx) : ((cfg0.win 3).blk t).view.emb x = x := emb_2 t x
theorem emb_5 (t : Fin cfg0.N) (x : S1x1x7168.Idx) : ((cfg0.win 5).blk t).view.emb x = x := emb_2 t x
theorem emb_4 (t : Fin cfg0.N) (x : S3x2048x7168.Idx) : ((cfg0.win 4).blk t).view.emb x = x :=
  funext fun a => Fin.ext (match a with
    | ⟨0, _⟩ => (by show 0 * 3 + 1 * (x 0).val = (x 0).val; omega)
    | ⟨1, _⟩ => (by show 0 * 2048 + 1 * (x 1).val = (x 1).val; omega)
    | ⟨2, _⟩ => (by show 0 * 7168 + 1 * (x 2).val = (x 2).val; omega))
theorem emb_6 (t : Fin cfg0.N) (x : S3x2048x7168.Idx) : ((cfg0.win 6).blk t).view.emb x = x := emb_4 t x
theorem emb_7 (t : Fin cfg0.N) (x : S3x2048x7168.Idx) : ((cfg0.win 7).blk t).view.emb x = x := emb_4 t x
theorem emb_8 (t : Fin cfg0.N) (x : S3x2048.Idx) : ((cfg0.win 8).blk t).view.emb x = x :=
  funext fun a => Fin.ext (match a with
    | ⟨0, _⟩ => (by show 0 * 3 + 1 * (x 0).val = (x 0).val; omega)
    | ⟨1, _⟩ => (by show 0 * 2048 + 1 * (x 1).val = (x 1).val; omega))

/-- Every index of a result array is in the one point's block. -/
theorem cover_6 (i : S3x2048x7168.Idx) : ∃ t : Fin cfg0.N, (cfg0.win 6).flush t = true ∧ i ∈ ((cfg0.win 6).blk t).view.set :=
  ⟨t0_0, flush0_6 _, by have h := ((cfg0.win 6).blk t0_0).view.emb_mem_set i; rwa [emb_6] at h⟩
theorem cover_7 (i : S3x2048x7168.Idx) : ∃ t : Fin cfg0.N, (cfg0.win 7).flush t = true ∧ i ∈ ((cfg0.win 7).blk t).view.set :=
  ⟨t0_0, flush0_7 _, by have h := ((cfg0.win 7).blk t0_0).view.emb_mem_set i; rwa [emb_7] at h⟩
theorem cover_8 (i : S3x2048.Idx) : ∃ t : Fin cfg0.N, (cfg0.win 8).flush t = true ∧ i ∈ ((cfg0.win 8).blk t).view.set :=
  ⟨t0_0, flush0_8 _, by have h := ((cfg0.win 8).blk t0_0).view.emb_mem_set i; rwa [emb_8] at h⟩

variable (m : (ℓ : Loc nD τ sig) → Buf (Elt Ideal) ℓ) (c : Dev nD) (t : Fin cfg0.N)

/-! ## The blocks of the inputs -/

theorem V_v0 : V m c main_v0 = shapeCast S1x1x7168 (m ((c : Thread nD τ).loc main_arg2) : Vec Ideal S7168 .f32) shapeCasts_S7168_S1x1x7168 := by
  show StableHlo.after hostOps0 _ (Proc.devRef .tc main_v0) = _
  after_results
  rfl
theorem V_v1 : V m c main_v1 = shapeCast S1x1x7168 (m ((c : Thread nD τ).loc main_arg3) : Vec Ideal S7168 .f32) shapeCasts_S7168_S1x1x7168 := by
  show StableHlo.after hostOps0 _ (Proc.devRef .tc main_v1) = _
  after_results
  rfl
theorem V_v2 : V m c main_v2 = shapeCast S1x1x7168 (m ((c : Thread nD τ).loc main_arg5) : Vec Ideal S7168 .f32) shapeCasts_S7168_S1x1x7168 := by
  show StableHlo.after hostOps0 _ (Proc.devRef .tc main_v2) = _
  after_results
  rfl

theorem row_at (x : Vec Ideal S7168 .f32) (j : Fin 7168) : shapeCast S1x1x7168 x shapeCasts_S7168_S1x1x7168 (ix3 0 0 j) = x (ix1 j) := by
  pointwise

/-- The payloads, -/
abbrev arg0 : S4x3x2048x7168.Idx → EReal := m ((c : Thread nD τ).loc main_arg0)
/-- their scales, -/
abbrev arg1 : S4x3x2048.Idx → EReal := m ((c : Thread nD τ).loc main_arg1)
/-- the bias, -/
abbrev arg2 : S7168.Idx → EReal := m ((c : Thread nD τ).loc main_arg2)
/-- the first weights, -/
abbrev arg3 : S7168.Idx → EReal := m ((c : Thread nD τ).loc main_arg3)
/-- the residual, -/
abbrev arg4 : S3x2048x7168.Idx → EReal := m ((c : Thread nD τ).loc main_arg4)
/-- and the second weights. -/
abbrev arg5 : S7168.Idx → EReal := m ((c : Thread nD τ).loc main_arg5)

theorem iblk0_eq : iblk m c 0 t = arg0 m c := by
  funext x
  show V m c main_arg0 (((cfg0.win 0).blk t).view.emb x) = _
  rw [idx_four, V_main_arg0]
theorem iblk1_eq : iblk m c 1 t = arg1 m c := by
  funext x
  show V m c main_arg1 (((cfg0.win 1).blk t).view.emb x) = _
  rw [emb_1, V_main_arg1]
theorem iblk4_eq : iblk m c 4 t = arg4 m c := by
  funext x
  show V m c main_arg4 (((cfg0.win 4).blk t).view.emb x) = _
  rw [emb_4, V_main_arg4]
theorem iblk2_at (j : Fin 7168) : iblk m c 2 t (ix3 0 0 j) = arg2 m c (ix1 j) := by
  show V m c main_v0 (((cfg0.win 2).blk t).view.emb (ix3 0 0 j)) = _
  rw [emb_2, V_v0, row_at]
theorem iblk3_at (j : Fin 7168) : iblk m c 3 t (ix3 0 0 j) = arg3 m c (ix1 j) := by
  show V m c main_v1 (((cfg0.win 3).blk t).view.emb (ix3 0 0 j)) = _
  rw [emb_3, V_v1, row_at]
theorem iblk5_at (j : Fin 7168) : iblk m c 5 t (ix3 0 0 j) = arg5 m c (ix1 j) := by
  show V m c main_v2 (((cfg0.win 5).blk t).view.emb (ix3 0 0 j)) = _
  rw [emb_5, V_v2, row_at]

/-! ## The rows -/

theorem v_iblk (b : Fin 3) (k : Fin 2048) : vRef (iblk m c 0 t) (iblk m c 1 t) (iblk m c 2 t) b k = vTok (arg0 m c) (arg1 m c) (arg2 m c) b k := by
  funext j
  unfold vRef vTok pre
  simp only [iblk2_at]
  rw [iblk0_eq, iblk1_eq]
theorem h_iblk (b : Fin 3) (k : Fin 2048) : hRef (iblk m c 0 t) (iblk m c 1 t) (iblk m c 2 t) (iblk m c 3 t) (iblk m c 4 t) b k
    = hTok (arg0 m c) (arg1 m c) (arg2 m c) (arg3 m c) (arg4 m c) b k := by
  funext j
  unfold hRef hTok
  rw [v_iblk]
  unfold resid
  simp only [iblk3_at]
  rw [iblk4_eq]
theorem y_iblk (b : Fin 3) (k : Fin 2048) : yRef (iblk m c 0 t) (iblk m c 1 t) (iblk m c 2 t) (iblk m c 3 t) (iblk m c 5 t) (iblk m c 4 t) b k
    = yTok (arg0 m c) (arg1 m c) (arg2 m c) (arg3 m c) (arg5 m c) (arg4 m c) b k := by
  funext j
  unfold yRef yTok
  rw [h_iblk]
  unfold normed
  simp only [iblk5_at]

/-! ## The result arrays -/

/-- The array of new residuals ends at its function of the arguments, -/
theorem final_res : (dats m 0 c).arrAt 6 cfg0.N = resArr (arg0 m c) (arg1 m c) (arg2 m c) (arg3 m c) (arg4 m c) := by
  refine Dat.arrAt_eq_of_cover (dats m 0 c) (6 : Fin cfg0.W) (resArr (arg0 m c) (arg1 m c) (arg2 m c) (arg3 m c) (arg4 m c)) (fun t _ => ?_) cover_6
  show (cfg0.win 6).cut (grid0.coords t) ((dats m 0 c).after 6 t) = _
  rw [after0_6]
  funext x
  show out0_6 (iblk m c 0 t) (iblk m c 1 t) (iblk m c 2 t) (iblk m c 3 t) (iblk m c 4 t) (iblk m c 5 t) x
    = resArr _ _ _ _ _ (((cfg0.win 6).blk t).view.emb x)
  rw [emb_6]
  idx_vars x
  rw [out6_at, h_iblk]
  rfl

/-- the array of codes too, -/
theorem final_cod : (dats m 0 c).arrAt 7 cfg0.N = codArr (arg0 m c) (arg1 m c) (arg2 m c) (arg3 m c) (arg5 m c) (arg4 m c) := by
  refine Dat.arrAt_eq_of_cover (dats m 0 c) (7 : Fin cfg0.W) (codArr (arg0 m c) (arg1 m c) (arg2 m c) (arg3 m c) (arg5 m c) (arg4 m c)) (fun t _ => ?_) cover_7
  show (cfg0.win 7).cut (grid0.coords t) ((dats m 0 c).after 7 t) = _
  rw [after0_7]
  funext x
  show out0_7 (iblk m c 0 t) (iblk m c 1 t) (iblk m c 2 t) (iblk m c 3 t) (iblk m c 4 t) (iblk m c 5 t) x
    = codArr _ _ _ _ _ _ (((cfg0.win 7).blk t).view.emb x)
  rw [emb_7]
  idx_vars x
  rw [out7_at, y_iblk]
  rfl

/-- and the array of scales. -/
theorem final_sca : (dats m 0 c).arrAt 8 cfg0.N = scaArr (arg0 m c) (arg1 m c) (arg2 m c) (arg3 m c) (arg5 m c) (arg4 m c) := by
  refine Dat.arrAt_eq_of_cover (dats m 0 c) (8 : Fin cfg0.W) (scaArr (arg0 m c) (arg1 m c) (arg2 m c) (arg3 m c) (arg5 m c) (arg4 m c)) (fun t _ => ?_) cover_8
  show (cfg0.win 8).cut (grid0.coords t) ((dats m 0 c).after 8 t) = _
  rw [after0_8]
  funext x
  show out0_8 (iblk m c 0 t) (iblk m c 1 t) (iblk m c 2 t) (iblk m c 3 t) (iblk m c 4 t) (iblk m c 5 t) x
    = scaArr _ _ _ _ _ _ (((cfg0.win 8).blk t).view.emb x)
  rw [emb_8]
  idx_vars x
  rw [out8_at, y_iblk]
  rfl

/-- The reference's run: its three results at their functions of the arguments, the arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v3_0) = resArr (arg0 m c) (arg1 m c) (arg2 m c) (arg3 m c) (arg4 m c)
      ∧ r.2.mem ((c.tc : Thread nD τ).loc main_v3_1) = codArr (arg0 m c) (arg1 m c) (arg2 m c) (arg3 m c) (arg5 m c) (arg4 m c)
      ∧ r.2.mem ((c.tc : Thread nD τ).loc main_v3_2) = scaArr (arg0 m c) (arg1 m c) (arg2 m c) (arg3 m c) (arg5 m c) (arg4 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r hr c => ⟨((hr.1 c).1 6).trans (final_res m c), ((hr.1 c).1 7).trans (final_cod m c),
    ((hr.1 c).1 8).trans (final_sca m c), hr.2 c⟩) (θ_run_and (run_main m ρ) (unchanged m ρ))

end Cert.ReferenceIdeal.Sandwich
-- ==== Proof.lean ====
/- The proof of the claims about the sandwich norm kernel: all three programs run and leave their arguments alone, the
   idealized kernel differs from the kernel by the one named constant, and it leaves the reference's three results. -/
module

public import proofs.«01_k».proof.Defs
public import proofs.«01_k».proof.Proof.Gen.Kernel
public import proofs.«01_k».proof.Proof.Printed
public import proofs.«01_k».proof.Proof.Gen.KernelIdeal
public import proofs.«01_k».proof.Proof.Gen.ReferenceIdeal
public import proofs.«01_k».proof.Proof.Gen.ReferenceIdeal.Frame
public import proofs.«01_k».proof.Proof.Gen.Pre_finite_gain
public import proofs.«01_k».proof.Proof.Arrays
public import proofs.«01_k».proof.Proof.RefArrays
public import Idealize.ShloMosaic.Adequacy
public import Idealize.ShloMosaic.Init
public import Idealize.ShloMosaic.Lib.Pointwise.Select

@[expose] public section

set_option maxRecDepth 16384

noncomputable section

namespace Cert.Proof

open Idealize.ShloMosaic Idealize.SL.Sem Cert.Spec

section
variable {m : (ℓ : Loc KernelIdeal.nD KernelIdeal.τ KernelIdeal.sig) → Buf (Elt Ideal) ℓ} (h : Cert.Pre_KernelIdeal_finite_gain m)

include h in
/-- The precondition makes every second weight at most the largest finite number of the format. -/
theorem weights_small (c : Dev KernelIdeal.nD) (x : KernelIdeal.S7168.Idx) : KernelIdeal.Sandwich.Small (KernelIdeal.Sandwich.arg5 m c x) := by
  have e := congrFun (h c) x
  exact (Ideal.cmp_ole_eq_one _ _).mp e

end

/-- The idealized kernel and the reference leave the same three results. -/
theorem algebraic : Cert.algebraic_KernelIdeal_ReferenceIdeal_pre_finite_gain := by
  intro m g m' g' hpre hargs
  refine ⟨_, _, _, KernelIdeal.Sandwich.run m g (weights_small hpre), ?_⟩
  refine (θ_run _ _ _).mono (fun r hr c => ?_) (ReferenceIdeal.Sandwich.run m' g')
  obtain ⟨h0, h1, h2, h3, h4, h5⟩ := hargs c
  have hr' := hr c
  unfold ReferenceIdeal.Sandwich.arg0 ReferenceIdeal.Sandwich.arg1 ReferenceIdeal.Sandwich.arg2 ReferenceIdeal.Sandwich.arg3
    ReferenceIdeal.Sandwich.arg4 ReferenceIdeal.Sandwich.arg5 at hr'
  obtain ⟨e0, e1, e2, hk⟩ := hr'
  refine ⟨e0.trans ?_, e1.trans ?_, e2.trans ?_, hk⟩
  · rw [h0, h1, h2, h3, h4]
  · rw [h0, h1, h2, h3, h4, h5]
  · rw [h0, h1, h2, h3, h4, h5]

theorem claim : Cert.Claim :=
  ⟨Cert.Kernel.Gen.facts, Cert.KernelIdeal.Gen.facts, Cert.ReferenceIdeal.Gen.facts, Cert.Pre_finite_gain.Gen.facts,
    fun m ρ _ => Cert.Kernel.Sandwich.frame m ρ,
    fun m ρ _ => Cert.KernelIdeal.Sandwich.frame m ρ,
    fun m ρ _ => Cert.KernelIdeal.Sandwich.frame m ρ,
    fun m ρ _ => Cert.ReferenceIdeal.Gen.frame m ρ,
    fun m ρ _ => Cert.ReferenceIdeal.Gen.frame m ρ,
    IdealRules.named_const.statement Cert.KernelIdeal.κ "inv_d" .f32 0x39124925#32 ((1/7168 : ℝ) : EReal) rfl,
    algebraic⟩

end Cert.Proof

end
